-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))
      ∧ r.2.sem = fun _ => 0)

def preserves_Kernel_KernelIdeal : Prop :=
  IdealRules.named_const.Statement Cert.KernelIdeal.κ "slope" .bf16 0x3E4D#16 ((13421773 / 67108864 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v308) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x64x24000 : Shape := ⟨3, ![4, 64, 24000]⟩
abbrev S32x64x3 : Shape := ⟨3, ![32, 64, 3]⟩
abbrev S32 : Shape := ⟨1, ![32]⟩
abbrev S32x8x3 : Shape := ⟨3, ![32, 8, 3]⟩
abbrev S32x32x3 : Shape := ⟨3, ![32, 32, 3]⟩
abbrev S16x8x3 : Shape := ⟨3, ![16, 8, 3]⟩
abbrev S16 : Shape := ⟨1, ![16]⟩
abbrev S12x16x1 : Shape := ⟨3, ![12, 16, 1]⟩
abbrev S12 : Shape := ⟨1, ![12]⟩
abbrev S14x16x1 : Shape := ⟨3, ![14, 16, 1]⟩
abbrev S14 : Shape := ⟨1, ![14]⟩
abbrev S8x16x1 : Shape := ⟨3, ![8, 16, 1]⟩
abbrev S8 : Shape := ⟨1, ![8]⟩
abbrev S16x32x3 : Shape := ⟨3, ![16, 32, 3]⟩
abbrev S256x24000 : Shape := ⟨2, ![256, 24000]⟩
abbrev S3x32x64 : Shape := ⟨3, ![3, 32, 64]⟩
abbrev S3x1x32x64 : Shape := ⟨4, ![3, 1, 32, 64]⟩
abbrev S1x1 : Shape := ⟨2, ![1, 1]⟩
abbrev S_ : Shape := ⟨0, ![]⟩
abbrev S3x1x32x1x64 : Shape := ⟨5, ![3, 1, 32, 1, 64]⟩
abbrev S1x1x1x1x1 : Shape := ⟨5, ![1, 1, 1, 1, 1]⟩
abbrev S4x4 : Shape := ⟨2, ![4, 4]⟩
abbrev S32x3x64 : Shape := ⟨3, ![32, 3, 64]⟩
abbrev S1x32x3x1x64 : Shape := ⟨5, ![1, 32, 3, 1, 64]⟩
abbrev S4x1x1x4x1 : Shape := ⟨5, ![4, 1, 1, 4, 1]⟩
abbrev S4x32x3x4x64 : Shape := ⟨5, ![4, 32, 3, 4, 64]⟩
abbrev S128x768 : Shape := ⟨2, ![128, 768]⟩
abbrev S3x32x8 : Shape := ⟨3, ![3, 32, 8]⟩
abbrev S3x4x8x8 : Shape := ⟨4, ![3, 4, 8, 8]⟩
abbrev S3x4x8x1x8 : Shape := ⟨5, ![3, 4, 8, 1, 8]⟩
abbrev S1x4x1x4x1 : Shape := ⟨5, ![1, 4, 1, 4, 1]⟩
abbrev S3x4x8x4x8 : Shape := ⟨5, ![3, 4, 8, 4, 8]⟩
abbrev S3x32x32 : Shape := ⟨3, ![3, 32, 32]⟩
abbrev S32x3x32 : Shape := ⟨3, ![32, 3, 32]⟩
abbrev S1x32x3x1x32 : Shape := ⟨5, ![1, 32, 3, 1, 32]⟩
abbrev S4x32x3x4x32 : Shape := ⟨5, ![4, 32, 3, 4, 32]⟩
abbrev S128x384 : Shape := ⟨2, ![128, 384]⟩
abbrev S3x1x32x32 : Shape := ⟨4, ![3, 1, 32, 32]⟩
abbrev S3x1x32x1x32 : Shape := ⟨5, ![3, 1, 32, 1, 32]⟩
abbrev S1x32 : Shape := ⟨2, ![1, 32]⟩
abbrev S4x32 : Shape := ⟨2, ![4, 32]⟩
abbrev S128 : Shape := ⟨1, ![128]⟩
abbrev S128x1 : Shape := ⟨2, ![128, 1]⟩
abbrev S3x16x8 : Shape := ⟨3, ![3, 16, 8]⟩
abbrev S3x4x4x8 : Shape := ⟨4, ![3, 4, 4, 8]⟩
abbrev S3x4x4x1x8 : Shape := ⟨5, ![3, 4, 4, 1, 8]⟩
abbrev S3x4x4x4x8 : Shape := ⟨5, ![3, 4, 4, 4, 8]⟩
abbrev S3x16x32 : Shape := ⟨3, ![3, 16, 32]⟩
abbrev S3x1x16x32 : Shape := ⟨4, ![3, 1, 16, 32]⟩
abbrev S3x1x16x1x32 : Shape := ⟨5, ![3, 1, 16, 1, 32]⟩
abbrev S3x80x32 : Shape := ⟨3, ![3, 80, 32]⟩
abbrev S80x3x32 : Shape := ⟨3, ![80, 3, 32]⟩
abbrev S1x80x3x1x32 : Shape := ⟨5, ![1, 80, 3, 1, 32]⟩
abbrev S4x80x3x4x32 : Shape := ⟨5, ![4, 80, 3, 4, 32]⟩
abbrev S320x384 : Shape := ⟨2, ![320, 384]⟩
abbrev S80 : Shape := ⟨1, ![80]⟩
abbrev S1x80 : Shape := ⟨2, ![1, 80]⟩
abbrev S4x80 : Shape := ⟨2, ![4, 80]⟩
abbrev S320 : Shape := ⟨1, ![320]⟩
abbrev S320x1 : Shape := ⟨2, ![320, 1]⟩
abbrev S12x16 : Shape := ⟨2, ![12, 16]⟩
abbrev S14x16 : Shape := ⟨2, ![14, 16]⟩
abbrev S8x16 : Shape := ⟨2, ![8, 16]⟩
abbrev S60x80 : Shape := ⟨2, ![60, 80]⟩
abbrev S60 : Shape := ⟨1, ![60]⟩
abbrev S60x1 : Shape := ⟨2, ![60, 1]⟩
abbrev S4x60x24000 : Shape := ⟨3, ![4, 60, 24000]⟩
abbrev S256x128 : Shape := ⟨2, ![256, 128]⟩
abbrev S256x4096 : Shape := ⟨2, ![256, 4096]⟩
abbrev S4x60x4096 : Shape := ⟨3, ![4, 60, 4096]⟩
abbrev S256x4352 : Shape := ⟨2, ![256, 4352]⟩
abbrev S1x4352 : Shape := ⟨2, ![1, 4352]⟩
abbrev S256x1 : Shape := ⟨2, ![256, 1]⟩
abbrev S256x4351 : Shape := ⟨2, ![256, 4351]⟩
abbrev S768x4352 : Shape := ⟨2, ![768, 4352]⟩
abbrev S128x4352 : Shape := ⟨2, ![128, 4352]⟩
abbrev S128x4351 : Shape := ⟨2, ![128, 4351]⟩
abbrev S384x4352 : Shape := ⟨2, ![384, 4352]⟩
abbrev S320x4352 : Shape := ⟨2, ![320, 4352]⟩
abbrev S320x4096 : Shape := ⟨2, ![320, 4096]⟩
abbrev S80x4096 : Shape := ⟨2, ![80, 4096]⟩
abbrev S60x4096 : Shape := ⟨2, ![60, 4096]⟩
abbrev S1x60x4096 : Shape := ⟨3, ![1, 60, 4096]⟩

abbrev nBuf : Space → Nat
  | .hbm => 249
  | .vmem => 18
  | .smem => 0
  | _ => 0

abbrev hbmTy0_0 (i : Nat) : BufTy := match i % 128 with
  | 0 => ⟨S4x64x24000, .f32⟩
  | 1 => ⟨S32x64x3, .f32⟩
  | 2 => ⟨S32, .f32⟩
  | 3 => ⟨S32x8x3, .f32⟩
  | 4 => ⟨S32, .f32⟩
  | 5 => ⟨S32x32x3, .f32⟩
  | 6 => ⟨S32, .f32⟩
  | 7 => ⟨S16x8x3, .f32⟩
  | 8 => ⟨S16, .f32⟩
  | 9 => ⟨S12x16x1, .f32⟩
  | 10 => ⟨S12, .f32⟩
  | 11 => ⟨S16x8x3, .f32⟩
  | 12 => ⟨S16, .f32⟩
  | 13 => ⟨S14x16x1, .f32⟩
  | 14 => ⟨S14, .f32⟩
  | 15 => ⟨S16x8x3, .f32⟩
  | 16 => ⟨S16, .f32⟩
  | 17 => ⟨S12x16x1, .f32⟩
  | 18 => ⟨S12, .f32⟩
  | 19 => ⟨S16x8x3, .f32⟩
  | 20 => ⟨S16, .f32⟩
  | 21 => ⟨S8x16x1, .f32⟩
  | 22 => ⟨S8, .f32⟩
  | 23 => ⟨S16x32x3, .f32⟩
  | 24 => ⟨S16, .f32⟩
  | 25 => ⟨S14x16x1, .f32⟩
  | 26 => ⟨S14, .f32⟩
  | 27 => ⟨S256x24000, .f32⟩
  | 28 => ⟨S3x32x64, .f32⟩
  | 29 => ⟨S3x1x32x64, .f32⟩
  | 30 => ⟨S1x1, .i32⟩
  | 31 => ⟨S1x1, .i32⟩
  | 32 => ⟨S_, .i32⟩
  | 33 => ⟨S1x1, .i32⟩
  | 34 => ⟨S1x1, .i32⟩
  | 35 => ⟨S1x1, .i1⟩
  | 36 => ⟨S1x1, .f32⟩
  | 37 => ⟨S3x1x32x1x64, .f32⟩
  | 38 => ⟨S1x1x1x1x1, .f32⟩
  | 39 => ⟨S3x1x32x1x64, .f32⟩
  | 40 => ⟨S3x1x32x1x64, .f32⟩
  | 41 => ⟨S3x32x64, .f32⟩
  | 42 => ⟨S4x4, .i32⟩
  | 43 => ⟨S4x4, .i32⟩
  | 44 => ⟨S_, .i32⟩
  | 45 => ⟨S4x4, .i32⟩
  | 46 => ⟨S4x4, .i32⟩
  | 47 => ⟨S4x4, .i1⟩
  | 48 => ⟨S4x4, .f32⟩
  | 49 => ⟨S32x3x64, .f32⟩
  | 50 => ⟨S1x32x3x1x64, .f32⟩
  | 51 => ⟨S4x1x1x4x1, .f32⟩
  | 52 => ⟨S4x32x3x4x64, .f32⟩
  | 53 => ⟨S4x32x3x4x64, .f32⟩
  | 54 => ⟨S4x32x3x4x64, .f32⟩
  | 55 => ⟨S128x768, .f32⟩
  | 56 => ⟨S3x32x8, .f32⟩
  | 57 => ⟨S3x4x8x8, .f32⟩
  | 58 => ⟨S4x4, .i32⟩
  | 59 => ⟨S4x4, .i32⟩
  | 60 => ⟨S_, .i32⟩
  | 61 => ⟨S4x4, .i32⟩
  | 62 => ⟨S4x4, .i32⟩
  | 63 => ⟨S4x4, .i1⟩
  | 64 => ⟨S4x4, .f32⟩
  | 65 => ⟨S3x4x8x1x8, .f32⟩
  | 66 => ⟨S1x4x1x4x1, .f32⟩
  | 67 => ⟨S3x4x8x4x8, .f32⟩
  | 68 => ⟨S3x4x8x4x8, .f32⟩
  | 69 => ⟨S3x4x8x4x8, .f32⟩
  | 70 => ⟨S3x32x32, .f32⟩
  | 71 => ⟨S4x4, .i32⟩
  | 72 => ⟨S4x4, .i32⟩
  | 73 => ⟨S_, .i32⟩
  | 74 => ⟨S4x4, .i32⟩
  | 75 => ⟨S4x4, .i32⟩
  | 76 => ⟨S4x4, .i1⟩
  | 77 => ⟨S4x4, .f32⟩
  | 78 => ⟨S32x3x32, .f32⟩
  | 79 => ⟨S1x32x3x1x32, .f32⟩
  | 80 => ⟨S4x1x1x4x1, .f32⟩
  | 81 => ⟨S4x32x3x4x32, .f32⟩
  | 82 => ⟨S4x32x3x4x32, .f32⟩
  | 83 => ⟨S4x32x3x4x32, .f32⟩
  | 84 => ⟨S128x384, .f32⟩
  | 85 => ⟨S3x32x32, .f32⟩
  | 86 => ⟨S3x1x32x32, .f32⟩
  | 87 => ⟨S1x1, .i32⟩
  | 88 => ⟨S1x1, .i32⟩
  | 89 => ⟨S_, .i32⟩
  | 90 => ⟨S1x1, .i32⟩
  | 91 => ⟨S1x1, .i32⟩
  | 92 => ⟨S1x1, .i1⟩
  | 93 => ⟨S1x1, .f32⟩
  | 94 => ⟨S3x1x32x1x32, .f32⟩
  | 95 => ⟨S1x1x1x1x1, .f32⟩
  | 96 => ⟨S3x1x32x1x32, .f32⟩
  | 97 => ⟨S3x1x32x1x32, .f32⟩
  | 98 => ⟨S3x32x32, .f32⟩
  | 99 => ⟨S4x4, .i32⟩
  | 100 => ⟨S4x4, .i32⟩
  | 101 => ⟨S_, .i32⟩
  | 102 => ⟨S4x4, .i32⟩
  | 103 => ⟨S4x4, .i32⟩
  | 104 => ⟨S4x4, .i1⟩
  | 105 => ⟨S4x4, .f32⟩
  | 106 => ⟨S32x3x32, .f32⟩
  | 107 => ⟨S1x32x3x1x32, .f32⟩
  | 108 => ⟨S4x1x1x4x1, .f32⟩
  | 109 => ⟨S4x32x3x4x32, .f32⟩
  | 110 => ⟨S4x32x3x4x32, .f32⟩
  | 111 => ⟨S4x32x3x4x32, .f32⟩
  | 112 => ⟨S128x384, .f32⟩
  | 113 => ⟨S1x32, .f32⟩
  | 114 => ⟨S4x32, .f32⟩
  | 115 => ⟨S128, .f32⟩
  | 116 => ⟨S128x1, .f32⟩
  | 117 => ⟨S1x32, .f32⟩
  | 118 => ⟨S4x32, .f32⟩
  | 119 => ⟨S128, .f32⟩
  | 120 => ⟨S128x1, .f32⟩
  | 121 => ⟨S1x32, .f32⟩
  | 122 => ⟨S4x32, .f32⟩
  | 123 => ⟨S128, .f32⟩
  | 124 => ⟨S128x1, .f32⟩
  | 125 => ⟨S3x16x8, .f32⟩
  | 126 => ⟨S3x4x4x8, .f32⟩
  | 127 => ⟨S4x4, .i32⟩
  | _ => ⟨S4x64x24000, .f32⟩

abbrev hbmTy0_1 (i : Nat) : BufTy := match i % 128 with
  | 0 => ⟨S4x4, .i32⟩
  | 1 => ⟨S_, .i32⟩
  | 2 => ⟨S4x4, .i32⟩
  | 3 => ⟨S4x4, .i32⟩
  | 4 => ⟨S4x4, .i1⟩
  | 5 => ⟨S4x4, .f32⟩
  | 6 => ⟨S3x4x4x1x8, .f32⟩
  | 7 => ⟨S1x4x1x4x1, .f32⟩
  | 8 => ⟨S3x4x4x4x8, .f32⟩
  | 9 => ⟨S3x4x4x4x8, .f32⟩
  | 10 => ⟨S3x4x4x4x8, .f32⟩
  | 11 => ⟨S3x16x32, .f32⟩
  | 12 => ⟨S3x16x8, .f32⟩
  | 13 => ⟨S3x4x4x8, .f32⟩
  | 14 => ⟨S4x4, .i32⟩
  | 15 => ⟨S4x4, .i32⟩
  | 16 => ⟨S_, .i32⟩
  | 17 => ⟨S4x4, .i32⟩
  | 18 => ⟨S4x4, .i32⟩
  | 19 => ⟨S4x4, .i1⟩
  | 20 => ⟨S4x4, .f32⟩
  | 21 => ⟨S3x4x4x1x8, .f32⟩
  | 22 => ⟨S1x4x1x4x1, .f32⟩
  | 23 => ⟨S3x4x4x4x8, .f32⟩
  | 24 => ⟨S3x4x4x4x8, .f32⟩
  | 25 => ⟨S3x4x4x4x8, .f32⟩
  | 26 => ⟨S3x16x32, .f32⟩
  | 27 => ⟨S3x16x8, .f32⟩
  | 28 => ⟨S3x4x4x8, .f32⟩
  | 29 => ⟨S4x4, .i32⟩
  | 30 => ⟨S4x4, .i32⟩
  | 31 => ⟨S_, .i32⟩
  | 32 => ⟨S4x4, .i32⟩
  | 33 => ⟨S4x4, .i32⟩
  | 34 => ⟨S4x4, .i1⟩
  | 35 => ⟨S4x4, .f32⟩
  | 36 => ⟨S3x4x4x1x8, .f32⟩
  | 37 => ⟨S1x4x1x4x1, .f32⟩
  | 38 => ⟨S3x4x4x4x8, .f32⟩
  | 39 => ⟨S3x4x4x4x8, .f32⟩
  | 40 => ⟨S3x4x4x4x8, .f32⟩
  | 41 => ⟨S3x16x32, .f32⟩
  | 42 => ⟨S3x16x8, .f32⟩
  | 43 => ⟨S3x4x4x8, .f32⟩
  | 44 => ⟨S4x4, .i32⟩
  | 45 => ⟨S4x4, .i32⟩
  | 46 => ⟨S_, .i32⟩
  | 47 => ⟨S4x4, .i32⟩
  | 48 => ⟨S4x4, .i32⟩
  | 49 => ⟨S4x4, .i1⟩
  | 50 => ⟨S4x4, .f32⟩
  | 51 => ⟨S3x4x4x1x8, .f32⟩
  | 52 => ⟨S1x4x1x4x1, .f32⟩
  | 53 => ⟨S3x4x4x4x8, .f32⟩
  | 54 => ⟨S3x4x4x4x8, .f32⟩
  | 55 => ⟨S3x4x4x4x8, .f32⟩
  | 56 => ⟨S3x16x32, .f32⟩
  | 57 => ⟨S3x16x32, .f32⟩
  | 58 => ⟨S3x1x16x32, .f32⟩
  | 59 => ⟨S1x1, .i32⟩
  | 60 => ⟨S1x1, .i32⟩
  | 61 => ⟨S_, .i32⟩
  | 62 => ⟨S1x1, .i32⟩
  | 63 => ⟨S1x1, .i32⟩
  | 64 => ⟨S1x1, .i1⟩
  | 65 => ⟨S1x1, .f32⟩
  | 66 => ⟨S3x1x16x1x32, .f32⟩
  | 67 => ⟨S1x1x1x1x1, .f32⟩
  | 68 => ⟨S3x1x16x1x32, .f32⟩
  | 69 => ⟨S3x1x16x1x32, .f32⟩
  | 70 => ⟨S3x16x32, .f32⟩
  | 71 => ⟨S3x80x32, .f32⟩
  | 72 => ⟨S4x4, .i32⟩
  | 73 => ⟨S4x4, .i32⟩
  | 74 => ⟨S_, .i32⟩
  | 75 => ⟨S4x4, .i32⟩
  | 76 => ⟨S4x4, .i32⟩
  | 77 => ⟨S4x4, .i1⟩
  | 78 => ⟨S4x4, .f32⟩
  | 79 => ⟨S80x3x32, .f32⟩
  | 80 => ⟨S1x80x3x1x32, .f32⟩
  | 81 => ⟨S4x1x1x4x1, .f32⟩
  | 82 => ⟨S4x80x3x4x32, .f32⟩
  | 83 => ⟨S4x80x3x4x32, .f32⟩
  | 84 => ⟨S4x80x3x4x32, .f32⟩
  | 85 => ⟨S320x384, .f32⟩
  | 86 => ⟨S80, .f32⟩
  | 87 => ⟨S1x80, .f32⟩
  | 88 => ⟨S4x80, .f32⟩
  | 89 => ⟨S320, .f32⟩
  | 90 => ⟨S320x1, .f32⟩
  | 91 => ⟨S12x16, .f32⟩
  | 92 => ⟨S14x16, .f32⟩
  | 93 => ⟨S12x16, .f32⟩
  | 94 => ⟨S8x16, .f32⟩
  | 95 => ⟨S14x16, .f32⟩
  | 96 => ⟨S_, .f32⟩
  | 97 => ⟨S60x80, .f32⟩
  | 98 => ⟨S_, .i32⟩
  | 99 => ⟨S_, .i32⟩
  | 100 => ⟨S60x80, .f32⟩
  | 101 => ⟨S_, .i32⟩
  | 102 => ⟨S_, .i32⟩
  | 103 => ⟨S60x80, .f32⟩
  | 104 => ⟨S_, .i32⟩
  | 105 => ⟨S_, .i32⟩
  | 106 => ⟨S60x80, .f32⟩
  | 107 => ⟨S_, .i32⟩
  | 108 => ⟨S_, .i32⟩
  | 109 => ⟨S60x80, .f32⟩
  | 110 => ⟨S_, .i32⟩
  | 111 => ⟨S_, .i32⟩
  | 112 => ⟨S60x80, .f32⟩
  | 113 => ⟨S60, .f32⟩
  | 114 => ⟨S60x1, .f32⟩
  | 115 => ⟨S128x768, .bf16⟩
  | 116 => ⟨S128x384, .bf16⟩
  | 117 => ⟨S128x384, .bf16⟩
  | 118 => ⟨S320x384, .bf16⟩
  | 119 => ⟨S60x80, .bf16⟩
  | 120 => ⟨S4x60x24000, .f32⟩
  | _ => ⟨S4x64x24000, .f32⟩

abbrev hbmTy (i : Nat) : BufTy := match i / 128 with
  | 0 => hbmTy0_0 i
  | 1 => hbmTy0_1 i
  | _ => ⟨S4x64x24000, .f32⟩

abbrev bufTy : (tb : Table) → Fin (tcTables nBuf tb) → BufTy
  | .hbm, ⟨i, _⟩ => hbmTy i
  | .local _ .vmem, ⟨0, _⟩ => ⟨S256x128, .f32⟩
  | .local _ .vmem, ⟨1, _⟩ => ⟨S256x128, .f32⟩
  | .local _ .vmem, ⟨2, _⟩ => ⟨S256x4096, .f32⟩
  | .local _ .vmem, ⟨3, _⟩ => ⟨S256x4096, .f32⟩
  | .local _ .vmem, ⟨4, _⟩ => ⟨S256x128, .f32⟩
  | .local _ .vmem, ⟨5, _⟩ => ⟨S256x128, .f32⟩
  | .local _ .vmem, ⟨6, _⟩ => ⟨S128x768, .bf16⟩
  | .local _ .vmem, ⟨7, _⟩ => ⟨S128x1, .f32⟩
  | .local _ .vmem, ⟨8, _⟩ => ⟨S128x384, .bf16⟩
  | .local _ .vmem, ⟨9, _⟩ => ⟨S128x1, .f32⟩
  | .local _ .vmem, ⟨10, _⟩ => ⟨S128x384, .bf16⟩
  | .local _ .vmem, ⟨11, _⟩ => ⟨S128x1, .f32⟩
  | .local _ .vmem, ⟨12, _⟩ => ⟨S320x384, .bf16⟩
  | .local _ .vmem, ⟨13, _⟩ => ⟨S320x1, .f32⟩
  | .local _ .vmem, ⟨14, _⟩ => ⟨S60x80, .bf16⟩
  | .local _ .vmem, ⟨15, _⟩ => ⟨S60x1, .f32⟩
  | .local _ .vmem, ⟨16, _⟩ => ⟨S4x60x4096, .f32⟩
  | .local _ .vmem, ⟨17, _⟩ => ⟨S4x60x4096, .f32⟩
  | _, _ => ⟨S4x64x24000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_c : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_v15 : Ref sig .tc := ⟨.hbm, 43, rfl⟩
abbrev main_call0_c_0 : Ref sig .tc := ⟨.hbm, 44, rfl⟩
abbrev main_call0_v16 : Ref sig .tc := ⟨.hbm, 45, rfl⟩
abbrev main_call0_v17 : Ref sig .tc := ⟨.hbm, 46, rfl⟩
abbrev main_call0_v18 : Ref sig .tc := ⟨.hbm, 47, rfl⟩
abbrev main_call0_v19 : Ref sig .tc := ⟨.hbm, 48, rfl⟩
abbrev main_call0_v20 : Ref sig .tc := ⟨.hbm, 49, rfl⟩
abbrev main_call0_v21 : Ref sig .tc := ⟨.hbm, 50, rfl⟩
abbrev main_call0_v22 : Ref sig .tc := ⟨.hbm, 51, rfl⟩
abbrev main_call0_v23 : Ref sig .tc := ⟨.hbm, 52, rfl⟩
abbrev main_call0_v24 : Ref sig .tc := ⟨.hbm, 53, rfl⟩
abbrev main_call0_v25 : Ref sig .tc := ⟨.hbm, 54, rfl⟩
abbrev main_call0_v26 : Ref sig .tc := ⟨.hbm, 55, rfl⟩
abbrev main_call0_v27 : Ref sig .tc := ⟨.hbm, 56, rfl⟩
abbrev main_call0_v28 : Ref sig .tc := ⟨.hbm, 57, rfl⟩
abbrev main_call0_v29 : Ref sig .tc := ⟨.hbm, 58, rfl⟩
abbrev main_call0_v30 : Ref sig .tc := ⟨.hbm, 59, rfl⟩
abbrev main_call0_c_1 : Ref sig .tc := ⟨.hbm, 60, rfl⟩
abbrev main_call0_v31 : Ref sig .tc := ⟨.hbm, 61, rfl⟩
abbrev main_call0_v32 : Ref sig .tc := ⟨.hbm, 62, rfl⟩
abbrev main_call0_v33 : Ref sig .tc := ⟨.hbm, 63, rfl⟩
abbrev main_call0_v34 : Ref sig .tc := ⟨.hbm, 64, rfl⟩
abbrev main_call0_v35 : Ref sig .tc := ⟨.hbm, 65, rfl⟩
abbrev main_call0_v36 : Ref sig .tc := ⟨.hbm, 66, rfl⟩
abbrev main_call0_v37 : Ref sig .tc := ⟨.hbm, 67, rfl⟩
abbrev main_call0_v38 : Ref sig .tc := ⟨.hbm, 68, rfl⟩
abbrev main_call0_v39 : Ref sig .tc := ⟨.hbm, 69, rfl⟩
abbrev main_call0_v40 : Ref sig .tc := ⟨.hbm, 70, rfl⟩
abbrev main_call0_v41 : Ref sig .tc := ⟨.hbm, 71, rfl⟩
abbrev main_call0_v42 : Ref sig .tc := ⟨.hbm, 72, rfl⟩
abbrev main_call0_c_2 : Ref sig .tc := ⟨.hbm, 73, rfl⟩
abbrev main_call0_v43 : Ref sig .tc := ⟨.hbm, 74, rfl⟩
abbrev main_call0_v44 : Ref sig .tc := ⟨.hbm, 75, rfl⟩
abbrev main_call0_v45 : Ref sig .tc := ⟨.hbm, 76, rfl⟩
abbrev main_call0_v46 : Ref sig .tc := ⟨.hbm, 77, rfl⟩
abbrev main_call0_v47 : Ref sig .tc := ⟨.hbm, 78, rfl⟩
abbrev main_call0_v48 : Ref sig .tc := ⟨.hbm, 79, rfl⟩
abbrev main_call0_v49 : Ref sig .tc := ⟨.hbm, 80, rfl⟩
abbrev main_call0_v50 : Ref sig .tc := ⟨.hbm, 81, rfl⟩
abbrev main_call0_v51 : Ref sig .tc := ⟨.hbm, 82, rfl⟩
abbrev main_call0_v52 : Ref sig .tc := ⟨.hbm, 83, rfl⟩
abbrev main_call0_v53 : Ref sig .tc := ⟨.hbm, 84, rfl⟩
abbrev main_call0_v54 : Ref sig .tc := ⟨.hbm, 85, rfl⟩
abbrev main_call0_v55 : Ref sig .tc := ⟨.hbm, 86, rfl⟩
abbrev main_call0_v56 : Ref sig .tc := ⟨.hbm, 87, rfl⟩
abbrev main_call0_v57 : Ref sig .tc := ⟨.hbm, 88, rfl⟩
abbrev main_call0_c_3 : Ref sig .tc := ⟨.hbm, 89, rfl⟩
abbrev main_call0_v58 : Ref sig .tc := ⟨.hbm, 90, rfl⟩
abbrev main_call0_v59 : Ref sig .tc := ⟨.hbm, 91, rfl⟩
abbrev main_call0_v60 : Ref sig .tc := ⟨.hbm, 92, rfl⟩
abbrev main_call0_v61 : Ref sig .tc := ⟨.hbm, 93, rfl⟩
abbrev main_call0_v62 : Ref sig .tc := ⟨.hbm, 94, rfl⟩
abbrev main_call0_v63 : Ref sig .tc := ⟨.hbm, 95, rfl⟩
abbrev main_call0_v64 : Ref sig .tc := ⟨.hbm, 96, rfl⟩
abbrev main_call0_v65 : Ref sig .tc := ⟨.hbm, 97, rfl⟩
abbrev main_call0_v66 : Ref sig .tc := ⟨.hbm, 98, rfl⟩
abbrev main_call0_v67 : Ref sig .tc := ⟨.hbm, 99, rfl⟩
abbrev main_call0_v68 : Ref sig .tc := ⟨.hbm, 100, rfl⟩
abbrev main_call0_c_4 : Ref sig .tc := ⟨.hbm, 101, rfl⟩
abbrev main_call0_v69 : Ref sig .tc := ⟨.hbm, 102, rfl⟩
abbrev main_call0_v70 : Ref sig .tc := ⟨.hbm, 103, rfl⟩
abbrev main_call0_v71 : Ref sig .tc := ⟨.hbm, 104, rfl⟩
abbrev main_call0_v72 : Ref sig .tc := ⟨.hbm, 105, rfl⟩
abbrev main_call0_v73 : Ref sig .tc := ⟨.hbm, 106, rfl⟩
abbrev main_call0_v74 : Ref sig .tc := ⟨.hbm, 107, rfl⟩
abbrev main_call0_v75 : Ref sig .tc := ⟨.hbm, 108, rfl⟩
abbrev main_call0_v76 : Ref sig .tc := ⟨.hbm, 109, rfl⟩
abbrev main_call0_v77 : Ref sig .tc := ⟨.hbm, 110, rfl⟩
abbrev main_call0_v78 : Ref sig .tc := ⟨.hbm, 111, rfl⟩
abbrev main_call0_v79 : Ref sig .tc := ⟨.hbm, 112, rfl⟩
abbrev main_call0_v80 : Ref sig .tc := ⟨.hbm, 113, rfl⟩
abbrev main_call0_v81 : Ref sig .tc := ⟨.hbm, 114, rfl⟩
abbrev main_call0_v82 : Ref sig .tc := ⟨.hbm, 115, rfl⟩
abbrev main_call0_v83 : Ref sig .tc := ⟨.hbm, 116, rfl⟩
abbrev main_call0_v84 : Ref sig .tc := ⟨.hbm, 117, rfl⟩
abbrev main_call0_v85 : Ref sig .tc := ⟨.hbm, 118, rfl⟩
abbrev main_call0_v86 : Ref sig .tc := ⟨.hbm, 119, rfl⟩
abbrev main_call0_v87 : Ref sig .tc := ⟨.hbm, 120, rfl⟩
abbrev main_call0_v88 : Ref sig .tc := ⟨.hbm, 121, rfl⟩
abbrev main_call0_v89 : Ref sig .tc := ⟨.hbm, 122, rfl⟩
abbrev main_call0_v90 : Ref sig .tc := ⟨.hbm, 123, rfl⟩
abbrev main_call0_v91 : Ref sig .tc := ⟨.hbm, 124, rfl⟩
abbrev main_call0_v92 : Ref sig .tc := ⟨.hbm, 125, rfl⟩
abbrev main_call0_v93 : Ref sig .tc := ⟨.hbm, 126, rfl⟩
abbrev main_call0_v94 : Ref sig .tc := ⟨.hbm, 127, rfl⟩
abbrev main_call0_v95 : Ref sig .tc := ⟨.hbm, 128, rfl⟩
abbrev main_call0_c_5 : Ref sig .tc := ⟨.hbm, 129, rfl⟩
abbrev main_call0_v96 : Ref sig .tc := ⟨.hbm, 130, rfl⟩
abbrev main_call0_v97 : Ref sig .tc := ⟨.hbm, 131, rfl⟩
abbrev main_call0_v98 : Ref sig .tc := ⟨.hbm, 132, rfl⟩
abbrev main_call0_v99 : Ref sig .tc := ⟨.hbm, 133, rfl⟩
abbrev main_call0_v100 : Ref sig .tc := ⟨.hbm, 134, rfl⟩
abbrev main_call0_v101 : Ref sig .tc := ⟨.hbm, 135, rfl⟩
abbrev main_call0_v102 : Ref sig .tc := ⟨.hbm, 136, rfl⟩
abbrev main_call0_v103 : Ref sig .tc := ⟨.hbm, 137, rfl⟩
abbrev main_call0_v104 : Ref sig .tc := ⟨.hbm, 138, rfl⟩
abbrev main_call0_v105 : Ref sig .tc := ⟨.hbm, 139, rfl⟩
abbrev main_call0_v106 : Ref sig .tc := ⟨.hbm, 140, rfl⟩
abbrev main_call0_v107 : Ref sig .tc := ⟨.hbm, 141, rfl⟩
abbrev main_call0_v108 : Ref sig .tc := ⟨.hbm, 142, rfl⟩
abbrev main_call0_v109 : Ref sig .tc := ⟨.hbm, 143, rfl⟩
abbrev main_call0_c_6 : Ref sig .tc := ⟨.hbm, 144, rfl⟩
abbrev main_call0_v110 : Ref sig .tc := ⟨.hbm, 145, rfl⟩
abbrev main_call0_v111 : Ref sig .tc := ⟨.hbm, 146, rfl⟩
abbrev main_call0_v112 : Ref sig .tc := ⟨.hbm, 147, rfl⟩
abbrev main_call0_v113 : Ref sig .tc := ⟨.hbm, 148, rfl⟩
abbrev main_call0_v114 : Ref sig .tc := ⟨.hbm, 149, rfl⟩
abbrev main_call0_v115 : Ref sig .tc := ⟨.hbm, 150, rfl⟩
abbrev main_call0_v116 : Ref sig .tc := ⟨.hbm, 151, rfl⟩
abbrev main_call0_v117 : Ref sig .tc := ⟨.hbm, 152, rfl⟩
abbrev main_call0_v118 : Ref sig .tc := ⟨.hbm, 153, rfl⟩
abbrev main_call0_v119 : Ref sig .tc := ⟨.hbm, 154, rfl⟩
abbrev main_call0_v120 : Ref sig .tc := ⟨.hbm, 155, rfl⟩
abbrev main_call0_v121 : Ref sig .tc := ⟨.hbm, 156, rfl⟩
abbrev main_call0_v122 : Ref sig .tc := ⟨.hbm, 157, rfl⟩
abbrev main_call0_v123 : Ref sig .tc := ⟨.hbm, 158, rfl⟩
abbrev main_call0_c_7 : Ref sig .tc := ⟨.hbm, 159, rfl⟩
abbrev main_call0_v124 : Ref sig .tc := ⟨.hbm, 160, rfl⟩
abbrev main_call0_v125 : Ref sig .tc := ⟨.hbm, 161, rfl⟩
abbrev main_call0_v126 : Ref sig .tc := ⟨.hbm, 162, rfl⟩
abbrev main_call0_v127 : Ref sig .tc := ⟨.hbm, 163, rfl⟩
abbrev main_call0_v128 : Ref sig .tc := ⟨.hbm, 164, rfl⟩
abbrev main_call0_v129 : Ref sig .tc := ⟨.hbm, 165, rfl⟩
abbrev main_call0_v130 : Ref sig .tc := ⟨.hbm, 166, rfl⟩
abbrev main_call0_v131 : Ref sig .tc := ⟨.hbm, 167, rfl⟩
abbrev main_call0_v132 : Ref sig .tc := ⟨.hbm, 168, rfl⟩
abbrev main_call0_v133 : Ref sig .tc := ⟨.hbm, 169, rfl⟩
abbrev main_call0_v134 : Ref sig .tc := ⟨.hbm, 170, rfl⟩
abbrev main_call0_v135 : Ref sig .tc := ⟨.hbm, 171, rfl⟩
abbrev main_call0_v136 : Ref sig .tc := ⟨.hbm, 172, rfl⟩
abbrev main_call0_v137 : Ref sig .tc := ⟨.hbm, 173, rfl⟩
abbrev main_call0_c_8 : Ref sig .tc := ⟨.hbm, 174, rfl⟩
abbrev main_call0_v138 : Ref sig .tc := ⟨.hbm, 175, rfl⟩
abbrev main_call0_v139 : Ref sig .tc := ⟨.hbm, 176, rfl⟩
abbrev main_call0_v140 : Ref sig .tc := ⟨.hbm, 177, rfl⟩
abbrev main_call0_v141 : Ref sig .tc := ⟨.hbm, 178, rfl⟩
abbrev main_call0_v142 : Ref sig .tc := ⟨.hbm, 179, rfl⟩
abbrev main_call0_v143 : Ref sig .tc := ⟨.hbm, 180, rfl⟩
abbrev main_call0_v144 : Ref sig .tc := ⟨.hbm, 181, rfl⟩
abbrev main_call0_v145 : Ref sig .tc := ⟨.hbm, 182, rfl⟩
abbrev main_call0_v146 : Ref sig .tc := ⟨.hbm, 183, rfl⟩
abbrev main_call0_v147 : Ref sig .tc := ⟨.hbm, 184, rfl⟩
abbrev main_call0_v148 : Ref sig .tc := ⟨.hbm, 185, rfl⟩
abbrev main_call0_v149 : Ref sig .tc := ⟨.hbm, 186, rfl⟩
abbrev main_call0_v150 : Ref sig .tc := ⟨.hbm, 187, rfl⟩
abbrev main_call0_v151 : Ref sig .tc := ⟨.hbm, 188, rfl⟩
abbrev main_call0_c_9 : Ref sig .tc := ⟨.hbm, 189, rfl⟩
abbrev main_call0_v152 : Ref sig .tc := ⟨.hbm, 190, rfl⟩
abbrev main_call0_v153 : Ref sig .tc := ⟨.hbm, 191, rfl⟩
abbrev main_call0_v154 : Ref sig .tc := ⟨.hbm, 192, rfl⟩
abbrev main_call0_v155 : Ref sig .tc := ⟨.hbm, 193, rfl⟩
abbrev main_call0_v156 : Ref sig .tc := ⟨.hbm, 194, rfl⟩
abbrev main_call0_v157 : Ref sig .tc := ⟨.hbm, 195, rfl⟩
abbrev main_call0_v158 : Ref sig .tc := ⟨.hbm, 196, rfl⟩
abbrev main_call0_v159 : Ref sig .tc := ⟨.hbm, 197, rfl⟩
abbrev main_call0_v160 : Ref sig .tc := ⟨.hbm, 198, rfl⟩
abbrev main_call0_v161 : Ref sig .tc := ⟨.hbm, 199, rfl⟩
abbrev main_call0_v162 : Ref sig .tc := ⟨.hbm, 200, rfl⟩
abbrev main_call0_v163 : Ref sig .tc := ⟨.hbm, 201, rfl⟩
abbrev main_call0_c_10 : Ref sig .tc := ⟨.hbm, 202, rfl⟩
abbrev main_call0_v164 : Ref sig .tc := ⟨.hbm, 203, rfl⟩
abbrev main_call0_v165 : Ref sig .tc := ⟨.hbm, 204, rfl⟩
abbrev main_call0_v166 : Ref sig .tc := ⟨.hbm, 205, rfl⟩
abbrev main_call0_v167 : Ref sig .tc := ⟨.hbm, 206, rfl⟩
abbrev main_call0_v168 : Ref sig .tc := ⟨.hbm, 207, rfl⟩
abbrev main_call0_v169 : Ref sig .tc := ⟨.hbm, 208, rfl⟩
abbrev main_call0_v170 : Ref sig .tc := ⟨.hbm, 209, rfl⟩
abbrev main_call0_v171 : Ref sig .tc := ⟨.hbm, 210, rfl⟩
abbrev main_call0_v172 : Ref sig .tc := ⟨.hbm, 211, rfl⟩
abbrev main_call0_v173 : Ref sig .tc := ⟨.hbm, 212, rfl⟩
abbrev main_call0_v174 : Ref sig .tc := ⟨.hbm, 213, rfl⟩
abbrev main_call0_v175 : Ref sig .tc := ⟨.hbm, 214, rfl⟩
abbrev main_call0_v176 : Ref sig .tc := ⟨.hbm, 215, rfl⟩
abbrev main_call0_v177 : Ref sig .tc := ⟨.hbm, 216, rfl⟩
abbrev main_call0_v178 : Ref sig .tc := ⟨.hbm, 217, rfl⟩
abbrev main_call0_v179 : Ref sig .tc := ⟨.hbm, 218, rfl⟩
abbrev main_call0_v180 : Ref sig .tc := ⟨.hbm, 219, rfl⟩
abbrev main_call0_v181 : Ref sig .tc := ⟨.hbm, 220, rfl⟩
abbrev main_call0_v182 : Ref sig .tc := ⟨.hbm, 221, rfl⟩
abbrev main_call0_v183 : Ref sig .tc := ⟨.hbm, 222, rfl⟩
abbrev main_call0_v184 : Ref sig .tc := ⟨.hbm, 223, rfl⟩
abbrev main_call0_cst : Ref sig .tc := ⟨.hbm, 224, rfl⟩
abbrev main_call0_v185 : Ref sig .tc := ⟨.hbm, 225, rfl⟩
abbrev main_call0_c_11 : Ref sig .tc := ⟨.hbm, 226, rfl⟩
abbrev main_call0_c_12 : Ref sig .tc := ⟨.hbm, 227, rfl⟩
abbrev main_call0_v186 : Ref sig .tc := ⟨.hbm, 228, rfl⟩
abbrev main_call0_c_13 : Ref sig .tc := ⟨.hbm, 229, rfl⟩
abbrev main_call0_c_14 : Ref sig .tc := ⟨.hbm, 230, rfl⟩
abbrev main_call0_v187 : Ref sig .tc := ⟨.hbm, 231, rfl⟩
abbrev main_call0_c_15 : Ref sig .tc := ⟨.hbm, 232, rfl⟩
abbrev main_call0_c_16 : Ref sig .tc := ⟨.hbm, 233, rfl⟩
abbrev main_call0_v188 : Ref sig .tc := ⟨.hbm, 234, rfl⟩
abbrev main_call0_c_17 : Ref sig .tc := ⟨.hbm, 235, rfl⟩
abbrev main_call0_c_18 : Ref sig .tc := ⟨.hbm, 236, rfl⟩
abbrev main_call0_v189 : Ref sig .tc := ⟨.hbm, 237, rfl⟩
abbrev main_call0_c_19 : Ref sig .tc := ⟨.hbm, 238, rfl⟩
abbrev main_call0_c_20 : Ref sig .tc := ⟨.hbm, 239, rfl⟩
abbrev main_call0_v190 : Ref sig .tc := ⟨.hbm, 240, rfl⟩
abbrev main_call0_v191 : Ref sig .tc := ⟨.hbm, 241, rfl⟩
abbrev main_call0_v192 : Ref sig .tc := ⟨.hbm, 242, rfl⟩
abbrev main_call0_v193 : Ref sig .tc := ⟨.hbm, 243, rfl⟩
abbrev main_call0_v194 : Ref sig .tc := ⟨.hbm, 244, rfl⟩
abbrev main_call0_v195 : Ref sig .tc := ⟨.hbm, 245, rfl⟩
abbrev main_call0_v196 : Ref sig .tc := ⟨.hbm, 246, rfl⟩
abbrev main_call0_v197 : Ref sig .tc := ⟨.hbm, 247, rfl⟩
abbrev main_v0 : Ref sig .tc := ⟨.hbm, 248, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c32_i32 : BitVec 32 := 32#32
  let v0 : BitVec 32 := Scalar.muli arg0 c32_i32
  let c32_i32_0 : BitVec 32 := 32#32
  let v1 : BitVec 32 := Scalar.addi v0 c32_i32_0
  let c187_i32 : BitVec 32 := 187#32
  let v2 : BitVec 32 := Scalar.minsi v1 c187_i32
  let c0_i32 : BitVec 32 := 0#32
  let c0_i32_1 : BitVec 32 := 0#32
  ![c0_i32.toNat, v2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S320x384 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S320x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S60x80 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S60x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4x60x4096 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KernelIdeal.lean ====
variable {F : FTy → Type} [FloatOps F] [Named F]
def κ : String → Option EReal := fun
  | "slope" => some ((13421773 / 67108864 : ℝ) : EReal)
  | _ => none
-- ==== ReferenceIdeal.lean ====
abbrev S4x64x24000 : Shape := ⟨3, ![4, 64, 24000]⟩
abbrev S32x64x3 : Shape := ⟨3, ![32, 64, 3]⟩
abbrev S32 : Shape := ⟨1, ![32]⟩
abbrev S32x8x3 : Shape := ⟨3, ![32, 8, 3]⟩
abbrev S32x32x3 : Shape := ⟨3, ![32, 32, 3]⟩
abbrev S16x8x3 : Shape := ⟨3, ![16, 8, 3]⟩
abbrev S16 : Shape := ⟨1, ![16]⟩
abbrev S12x16x1 : Shape := ⟨3, ![12, 16, 1]⟩
abbrev S12 : Shape := ⟨1, ![12]⟩
abbrev S14x16x1 : Shape := ⟨3, ![14, 16, 1]⟩
abbrev S14 : Shape := ⟨1, ![14]⟩
abbrev S8x16x1 : Shape := ⟨3, ![8, 16, 1]⟩
abbrev S8 : Shape := ⟨1, ![8]⟩
abbrev S16x32x3 : Shape := ⟨3, ![16, 32, 3]⟩
abbrev S_ : Shape := ⟨0, ![]⟩
abbrev S4x64x24002 : Shape := ⟨3, ![4, 64, 24002]⟩
abbrev S4x1x64x24002 : Shape := ⟨4, ![4, 1, 64, 24002]⟩
abbrev S1x32x64x3 : Shape := ⟨4, ![1, 32, 64, 3]⟩
abbrev S1x32x64x1 : Shape := ⟨4, ![1, 32, 64, 1]⟩
abbrev S1x32x64 : Shape := ⟨3, ![1, 32, 64]⟩
abbrev S4x1x64x24000 : Shape := ⟨4, ![4, 1, 64, 24000]⟩
abbrev S1x4x24000x32 : Shape := ⟨4, ![1, 4, 24000, 32]⟩
abbrev S4x1x32x24000 : Shape := ⟨4, ![4, 1, 32, 24000]⟩
abbrev S4x32x24000 : Shape := ⟨3, ![4, 32, 24000]⟩
abbrev S1x32x1 : Shape := ⟨3, ![1, 32, 1]⟩
abbrev S4x32x24002 : Shape := ⟨3, ![4, 32, 24002]⟩
abbrev S4x4x8x24002 : Shape := ⟨4, ![4, 4, 8, 24002]⟩
abbrev S4x8x8x3 : Shape := ⟨4, ![4, 8, 8, 3]⟩
abbrev S4x8x8x1 : Shape := ⟨4, ![4, 8, 8, 1]⟩
abbrev S4x8x8 : Shape := ⟨3, ![4, 8, 8]⟩
abbrev S4x4x8x24000 : Shape := ⟨4, ![4, 4, 8, 24000]⟩
abbrev S4x4x24000x8 : Shape := ⟨4, ![4, 4, 24000, 8]⟩
abbrev S4x1x32x24002 : Shape := ⟨4, ![4, 1, 32, 24002]⟩
abbrev S1x32x32x3 : Shape := ⟨4, ![1, 32, 32, 3]⟩
abbrev S1x32x32x1 : Shape := ⟨4, ![1, 32, 32, 1]⟩
abbrev S1x32x32 : Shape := ⟨3, ![1, 32, 32]⟩
abbrev S4x4x8x3 : Shape := ⟨4, ![4, 4, 8, 3]⟩
abbrev S4x4x8x1 : Shape := ⟨4, ![4, 4, 8, 1]⟩
abbrev S4x4x8 : Shape := ⟨3, ![4, 4, 8]⟩
abbrev S4x4x24000x4 : Shape := ⟨4, ![4, 4, 24000, 4]⟩
abbrev S4x4x4x24000 : Shape := ⟨4, ![4, 4, 4, 24000]⟩
abbrev S4x16x24000 : Shape := ⟨3, ![4, 16, 24000]⟩
abbrev S1x16x1 : Shape := ⟨3, ![1, 16, 1]⟩
abbrev S4x1x16x24000 : Shape := ⟨4, ![4, 1, 16, 24000]⟩
abbrev S1x12x16x1 : Shape := ⟨4, ![1, 12, 16, 1]⟩
abbrev S1x12x16 : Shape := ⟨3, ![1, 12, 16]⟩
abbrev S1x4x24000x12 : Shape := ⟨4, ![1, 4, 24000, 12]⟩
abbrev S4x1x12x24000 : Shape := ⟨4, ![4, 1, 12, 24000]⟩
abbrev S4x12x24000 : Shape := ⟨3, ![4, 12, 24000]⟩
abbrev S1x12x1 : Shape := ⟨3, ![1, 12, 1]⟩
abbrev S1x14x16x1 : Shape := ⟨4, ![1, 14, 16, 1]⟩
abbrev S1x14x16 : Shape := ⟨3, ![1, 14, 16]⟩
abbrev S1x4x24000x14 : Shape := ⟨4, ![1, 4, 24000, 14]⟩
abbrev S4x1x14x24000 : Shape := ⟨4, ![4, 1, 14, 24000]⟩
abbrev S4x14x24000 : Shape := ⟨3, ![4, 14, 24000]⟩
abbrev S1x14x1 : Shape := ⟨3, ![1, 14, 1]⟩
abbrev S1x8x16x1 : Shape := ⟨4, ![1, 8, 16, 1]⟩
abbrev S1x8x16 : Shape := ⟨3, ![1, 8, 16]⟩
abbrev S1x4x24000x8 : Shape := ⟨4, ![1, 4, 24000, 8]⟩
abbrev S4x1x8x24000 : Shape := ⟨4, ![4, 1, 8, 24000]⟩
abbrev S4x8x24000 : Shape := ⟨3, ![4, 8, 24000]⟩
abbrev S1x8x1 : Shape := ⟨3, ![1, 8, 1]⟩
abbrev S1x16x32x3 : Shape := ⟨4, ![1, 16, 32, 3]⟩
abbrev S1x16x32x1 : Shape := ⟨4, ![1, 16, 32, 1]⟩
abbrev S1x16x32 : Shape := ⟨3, ![1, 16, 32]⟩
abbrev S1x4x24000x16 : Shape := ⟨4, ![1, 4, 24000, 16]⟩
abbrev S4x60x24000 : Shape := ⟨3, ![4, 60, 24000]⟩

abbrev nBuf : Space → Nat
  | .hbm => 391
  | .vmem => 0
  | .smem => 0
  | _ => 0

abbrev hbmTy0_0 (i : Nat) : BufTy := match i % 128 with
  | 0 => ⟨S4x64x24000, .f32⟩
  | 1 => ⟨S32x64x3, .f32⟩
  | 2 => ⟨S32, .f32⟩
  | 3 => ⟨S32x8x3, .f32⟩
  | 4 => ⟨S32, .f32⟩
  | 5 => ⟨S32x32x3, .f32⟩
  | 6 => ⟨S32, .f32⟩
  | 7 => ⟨S16x8x3, .f32⟩
  | 8 => ⟨S16, .f32⟩
  | 9 => ⟨S12x16x1, .f32⟩
  | 10 => ⟨S12, .f32⟩
  | 11 => ⟨S16x8x3, .f32⟩
  | 12 => ⟨S16, .f32⟩
  | 13 => ⟨S14x16x1, .f32⟩
  | 14 => ⟨S14, .f32⟩
  | 15 => ⟨S16x8x3, .f32⟩
  | 16 => ⟨S16, .f32⟩
  | 17 => ⟨S12x16x1, .f32⟩
  | 18 => ⟨S12, .f32⟩
  | 19 => ⟨S16x8x3, .f32⟩
  | 20 => ⟨S16, .f32⟩
  | 21 => ⟨S8x16x1, .f32⟩
  | 22 => ⟨S8, .f32⟩
  | 23 => ⟨S16x32x3, .f32⟩
  | 24 => ⟨S16, .f32⟩
  | 25 => ⟨S14x16x1, .f32⟩
  | 26 => ⟨S14, .f32⟩
  | 27 => ⟨S_, .i32⟩
  | 28 => ⟨S_, .f32⟩
  | 29 => ⟨S4x64x24002, .f32⟩
  | 30 => ⟨S4x1x64x24002, .f32⟩
  | 31 => ⟨S1x32x64x3, .f32⟩
  | 32 => ⟨S1x32x64x1, .f32⟩
  | 33 => ⟨S1x32x64, .f32⟩
  | 34 => ⟨S4x1x64x24000, .f32⟩
  | 35 => ⟨S1x4x24000x32, .f32⟩
  | 36 => ⟨S4x1x32x24000, .f32⟩
  | 37 => ⟨S_, .f32⟩
  | 38 => ⟨S4x1x32x24000, .f32⟩
  | 39 => ⟨S4x1x32x24000, .f32⟩
  | 40 => ⟨S1x32x64x1, .f32⟩
  | 41 => ⟨S1x32x64, .f32⟩
  | 42 => ⟨S4x1x64x24000, .f32⟩
  | 43 => ⟨S1x4x24000x32, .f32⟩
  | 44 => ⟨S4x1x32x24000, .f32⟩
  | 45 => ⟨S4x1x32x24000, .f32⟩
  | 46 => ⟨S1x32x64x1, .f32⟩
  | 47 => ⟨S1x32x64, .f32⟩
  | 48 => ⟨S4x1x64x24000, .f32⟩
  | 49 => ⟨S1x4x24000x32, .f32⟩
  | 50 => ⟨S4x1x32x24000, .f32⟩
  | 51 => ⟨S4x1x32x24000, .f32⟩
  | 52 => ⟨S4x32x24000, .f32⟩
  | 53 => ⟨S1x32x1, .f32⟩
  | 54 => ⟨S4x32x24000, .f32⟩
  | 55 => ⟨S4x32x24000, .f32⟩
  | 56 => ⟨S_, .f32⟩
  | 57 => ⟨S4x32x24000, .f32⟩
  | 58 => ⟨S4x32x24000, .i1⟩
  | 59 => ⟨S_, .f32⟩
  | 60 => ⟨S4x32x24000, .f32⟩
  | 61 => ⟨S4x32x24000, .f32⟩
  | 62 => ⟨S4x32x24000, .f32⟩
  | 63 => ⟨S_, .i32⟩
  | 64 => ⟨S_, .f32⟩
  | 65 => ⟨S4x32x24002, .f32⟩
  | 66 => ⟨S4x4x8x24002, .f32⟩
  | 67 => ⟨S4x8x8x3, .f32⟩
  | 68 => ⟨S4x8x8x1, .f32⟩
  | 69 => ⟨S4x8x8, .f32⟩
  | 70 => ⟨S4x4x8x24000, .f32⟩
  | 71 => ⟨S4x4x24000x8, .f32⟩
  | 72 => ⟨S4x4x8x24000, .f32⟩
  | 73 => ⟨S_, .f32⟩
  | 74 => ⟨S4x4x8x24000, .f32⟩
  | 75 => ⟨S4x4x8x24000, .f32⟩
  | 76 => ⟨S4x8x8x1, .f32⟩
  | 77 => ⟨S4x8x8, .f32⟩
  | 78 => ⟨S4x4x8x24000, .f32⟩
  | 79 => ⟨S4x4x24000x8, .f32⟩
  | 80 => ⟨S4x4x8x24000, .f32⟩
  | 81 => ⟨S4x4x8x24000, .f32⟩
  | 82 => ⟨S4x8x8x1, .f32⟩
  | 83 => ⟨S4x8x8, .f32⟩
  | 84 => ⟨S4x4x8x24000, .f32⟩
  | 85 => ⟨S4x4x24000x8, .f32⟩
  | 86 => ⟨S4x4x8x24000, .f32⟩
  | 87 => ⟨S4x4x8x24000, .f32⟩
  | 88 => ⟨S4x32x24000, .f32⟩
  | 89 => ⟨S1x32x1, .f32⟩
  | 90 => ⟨S4x32x24000, .f32⟩
  | 91 => ⟨S4x32x24000, .f32⟩
  | 92 => ⟨S_, .f32⟩
  | 93 => ⟨S4x32x24000, .f32⟩
  | 94 => ⟨S4x32x24000, .i1⟩
  | 95 => ⟨S_, .f32⟩
  | 96 => ⟨S4x32x24000, .f32⟩
  | 97 => ⟨S4x32x24000, .f32⟩
  | 98 => ⟨S4x32x24000, .f32⟩
  | 99 => ⟨S_, .i32⟩
  | 100 => ⟨S_, .f32⟩
  | 101 => ⟨S4x32x24002, .f32⟩
  | 102 => ⟨S4x1x32x24002, .f32⟩
  | 103 => ⟨S1x32x32x3, .f32⟩
  | 104 => ⟨S1x32x32x1, .f32⟩
  | 105 => ⟨S1x32x32, .f32⟩
  | 106 => ⟨S4x1x32x24000, .f32⟩
  | 107 => ⟨S1x4x24000x32, .f32⟩
  | 108 => ⟨S4x1x32x24000, .f32⟩
  | 109 => ⟨S_, .f32⟩
  | 110 => ⟨S4x1x32x24000, .f32⟩
  | 111 => ⟨S4x1x32x24000, .f32⟩
  | 112 => ⟨S1x32x32x1, .f32⟩
  | 113 => ⟨S1x32x32, .f32⟩
  | 114 => ⟨S4x1x32x24000, .f32⟩
  | 115 => ⟨S1x4x24000x32, .f32⟩
  | 116 => ⟨S4x1x32x24000, .f32⟩
  | 117 => ⟨S4x1x32x24000, .f32⟩
  | 118 => ⟨S1x32x32x1, .f32⟩
  | 119 => ⟨S1x32x32, .f32⟩
  | 120 => ⟨S4x1x32x24000, .f32⟩
  | 121 => ⟨S1x4x24000x32, .f32⟩
  | 122 => ⟨S4x1x32x24000, .f32⟩
  | 123 => ⟨S4x1x32x24000, .f32⟩
  | 124 => ⟨S4x32x24000, .f32⟩
  | 125 => ⟨S1x32x1, .f32⟩
  | 126 => ⟨S4x32x24000, .f32⟩
  | 127 => ⟨S4x32x24000, .f32⟩
  | _ => ⟨S4x64x24000, .f32⟩

abbrev hbmTy0_1 (i : Nat) : BufTy := match i % 128 with
  | 0 => ⟨S_, .f32⟩
  | 1 => ⟨S4x32x24000, .f32⟩
  | 2 => ⟨S4x32x24000, .i1⟩
  | 3 => ⟨S_, .f32⟩
  | 4 => ⟨S4x32x24000, .f32⟩
  | 5 => ⟨S4x32x24000, .f32⟩
  | 6 => ⟨S4x32x24000, .f32⟩
  | 7 => ⟨S_, .i32⟩
  | 8 => ⟨S_, .f32⟩
  | 9 => ⟨S4x32x24002, .f32⟩
  | 10 => ⟨S4x4x8x24002, .f32⟩
  | 11 => ⟨S4x4x8x3, .f32⟩
  | 12 => ⟨S4x4x8x1, .f32⟩
  | 13 => ⟨S4x4x8, .f32⟩
  | 14 => ⟨S4x4x8x24000, .f32⟩
  | 15 => ⟨S4x4x24000x4, .f32⟩
  | 16 => ⟨S4x4x4x24000, .f32⟩
  | 17 => ⟨S_, .f32⟩
  | 18 => ⟨S4x4x4x24000, .f32⟩
  | 19 => ⟨S4x4x4x24000, .f32⟩
  | 20 => ⟨S4x4x8x1, .f32⟩
  | 21 => ⟨S4x4x8, .f32⟩
  | 22 => ⟨S4x4x8x24000, .f32⟩
  | 23 => ⟨S4x4x24000x4, .f32⟩
  | 24 => ⟨S4x4x4x24000, .f32⟩
  | 25 => ⟨S4x4x4x24000, .f32⟩
  | 26 => ⟨S4x4x8x1, .f32⟩
  | 27 => ⟨S4x4x8, .f32⟩
  | 28 => ⟨S4x4x8x24000, .f32⟩
  | 29 => ⟨S4x4x24000x4, .f32⟩
  | 30 => ⟨S4x4x4x24000, .f32⟩
  | 31 => ⟨S4x4x4x24000, .f32⟩
  | 32 => ⟨S4x16x24000, .f32⟩
  | 33 => ⟨S1x16x1, .f32⟩
  | 34 => ⟨S4x16x24000, .f32⟩
  | 35 => ⟨S4x16x24000, .f32⟩
  | 36 => ⟨S_, .f32⟩
  | 37 => ⟨S4x16x24000, .f32⟩
  | 38 => ⟨S4x16x24000, .i1⟩
  | 39 => ⟨S_, .f32⟩
  | 40 => ⟨S4x16x24000, .f32⟩
  | 41 => ⟨S4x16x24000, .f32⟩
  | 42 => ⟨S4x16x24000, .f32⟩
  | 43 => ⟨S_, .i32⟩
  | 44 => ⟨S_, .f32⟩
  | 45 => ⟨S4x16x24000, .f32⟩
  | 46 => ⟨S4x1x16x24000, .f32⟩
  | 47 => ⟨S1x12x16x1, .f32⟩
  | 48 => ⟨S1x12x16, .f32⟩
  | 49 => ⟨S1x4x24000x12, .f32⟩
  | 50 => ⟨S4x1x12x24000, .f32⟩
  | 51 => ⟨S_, .f32⟩
  | 52 => ⟨S4x1x12x24000, .f32⟩
  | 53 => ⟨S4x1x12x24000, .f32⟩
  | 54 => ⟨S4x12x24000, .f32⟩
  | 55 => ⟨S1x12x1, .f32⟩
  | 56 => ⟨S4x12x24000, .f32⟩
  | 57 => ⟨S4x12x24000, .f32⟩
  | 58 => ⟨S_, .i32⟩
  | 59 => ⟨S_, .f32⟩
  | 60 => ⟨S4x32x24002, .f32⟩
  | 61 => ⟨S4x4x8x24002, .f32⟩
  | 62 => ⟨S4x4x8x3, .f32⟩
  | 63 => ⟨S4x4x8x1, .f32⟩
  | 64 => ⟨S4x4x8, .f32⟩
  | 65 => ⟨S4x4x8x24000, .f32⟩
  | 66 => ⟨S4x4x24000x4, .f32⟩
  | 67 => ⟨S4x4x4x24000, .f32⟩
  | 68 => ⟨S_, .f32⟩
  | 69 => ⟨S4x4x4x24000, .f32⟩
  | 70 => ⟨S4x4x4x24000, .f32⟩
  | 71 => ⟨S4x4x8x1, .f32⟩
  | 72 => ⟨S4x4x8, .f32⟩
  | 73 => ⟨S4x4x8x24000, .f32⟩
  | 74 => ⟨S4x4x24000x4, .f32⟩
  | 75 => ⟨S4x4x4x24000, .f32⟩
  | 76 => ⟨S4x4x4x24000, .f32⟩
  | 77 => ⟨S4x4x8x1, .f32⟩
  | 78 => ⟨S4x4x8, .f32⟩
  | 79 => ⟨S4x4x8x24000, .f32⟩
  | 80 => ⟨S4x4x24000x4, .f32⟩
  | 81 => ⟨S4x4x4x24000, .f32⟩
  | 82 => ⟨S4x4x4x24000, .f32⟩
  | 83 => ⟨S4x16x24000, .f32⟩
  | 84 => ⟨S1x16x1, .f32⟩
  | 85 => ⟨S4x16x24000, .f32⟩
  | 86 => ⟨S4x16x24000, .f32⟩
  | 87 => ⟨S_, .f32⟩
  | 88 => ⟨S4x16x24000, .f32⟩
  | 89 => ⟨S4x16x24000, .i1⟩
  | 90 => ⟨S_, .f32⟩
  | 91 => ⟨S4x16x24000, .f32⟩
  | 92 => ⟨S4x16x24000, .f32⟩
  | 93 => ⟨S4x16x24000, .f32⟩
  | 94 => ⟨S_, .i32⟩
  | 95 => ⟨S_, .f32⟩
  | 96 => ⟨S4x16x24000, .f32⟩
  | 97 => ⟨S4x1x16x24000, .f32⟩
  | 98 => ⟨S1x14x16x1, .f32⟩
  | 99 => ⟨S1x14x16, .f32⟩
  | 100 => ⟨S1x4x24000x14, .f32⟩
  | 101 => ⟨S4x1x14x24000, .f32⟩
  | 102 => ⟨S_, .f32⟩
  | 103 => ⟨S4x1x14x24000, .f32⟩
  | 104 => ⟨S4x1x14x24000, .f32⟩
  | 105 => ⟨S4x14x24000, .f32⟩
  | 106 => ⟨S1x14x1, .f32⟩
  | 107 => ⟨S4x14x24000, .f32⟩
  | 108 => ⟨S4x14x24000, .f32⟩
  | 109 => ⟨S_, .i32⟩
  | 110 => ⟨S_, .f32⟩
  | 111 => ⟨S4x32x24002, .f32⟩
  | 112 => ⟨S4x4x8x24002, .f32⟩
  | 113 => ⟨S4x4x8x3, .f32⟩
  | 114 => ⟨S4x4x8x1, .f32⟩
  | 115 => ⟨S4x4x8, .f32⟩
  | 116 => ⟨S4x4x8x24000, .f32⟩
  | 117 => ⟨S4x4x24000x4, .f32⟩
  | 118 => ⟨S4x4x4x24000, .f32⟩
  | 119 => ⟨S_, .f32⟩
  | 120 => ⟨S4x4x4x24000, .f32⟩
  | 121 => ⟨S4x4x4x24000, .f32⟩
  | 122 => ⟨S4x4x8x1, .f32⟩
  | 123 => ⟨S4x4x8, .f32⟩
  | 124 => ⟨S4x4x8x24000, .f32⟩
  | 125 => ⟨S4x4x24000x4, .f32⟩
  | 126 => ⟨S4x4x4x24000, .f32⟩
  | 127 => ⟨S4x4x4x24000, .f32⟩
  | _ => ⟨S4x64x24000, .f32⟩

abbrev hbmTy0_2 (i : Nat) : BufTy := match i % 128 with
  | 0 => ⟨S4x4x8x1, .f32⟩
  | 1 => ⟨S4x4x8, .f32⟩
  | 2 => ⟨S4x4x8x24000, .f32⟩
  | 3 => ⟨S4x4x24000x4, .f32⟩
  | 4 => ⟨S4x4x4x24000, .f32⟩
  | 5 => ⟨S4x4x4x24000, .f32⟩
  | 6 => ⟨S4x16x24000, .f32⟩
  | 7 => ⟨S1x16x1, .f32⟩
  | 8 => ⟨S4x16x24000, .f32⟩
  | 9 => ⟨S4x16x24000, .f32⟩
  | 10 => ⟨S_, .f32⟩
  | 11 => ⟨S4x16x24000, .f32⟩
  | 12 => ⟨S4x16x24000, .i1⟩
  | 13 => ⟨S_, .f32⟩
  | 14 => ⟨S4x16x24000, .f32⟩
  | 15 => ⟨S4x16x24000, .f32⟩
  | 16 => ⟨S4x16x24000, .f32⟩
  | 17 => ⟨S_, .i32⟩
  | 18 => ⟨S_, .f32⟩
  | 19 => ⟨S4x16x24000, .f32⟩
  | 20 => ⟨S4x1x16x24000, .f32⟩
  | 21 => ⟨S1x12x16x1, .f32⟩
  | 22 => ⟨S1x12x16, .f32⟩
  | 23 => ⟨S1x4x24000x12, .f32⟩
  | 24 => ⟨S4x1x12x24000, .f32⟩
  | 25 => ⟨S_, .f32⟩
  | 26 => ⟨S4x1x12x24000, .f32⟩
  | 27 => ⟨S4x1x12x24000, .f32⟩
  | 28 => ⟨S4x12x24000, .f32⟩
  | 29 => ⟨S1x12x1, .f32⟩
  | 30 => ⟨S4x12x24000, .f32⟩
  | 31 => ⟨S4x12x24000, .f32⟩
  | 32 => ⟨S_, .i32⟩
  | 33 => ⟨S_, .f32⟩
  | 34 => ⟨S4x32x24002, .f32⟩
  | 35 => ⟨S4x4x8x24002, .f32⟩
  | 36 => ⟨S4x4x8x3, .f32⟩
  | 37 => ⟨S4x4x8x1, .f32⟩
  | 38 => ⟨S4x4x8, .f32⟩
  | 39 => ⟨S4x4x8x24000, .f32⟩
  | 40 => ⟨S4x4x24000x4, .f32⟩
  | 41 => ⟨S4x4x4x24000, .f32⟩
  | 42 => ⟨S_, .f32⟩
  | 43 => ⟨S4x4x4x24000, .f32⟩
  | 44 => ⟨S4x4x4x24000, .f32⟩
  | 45 => ⟨S4x4x8x1, .f32⟩
  | 46 => ⟨S4x4x8, .f32⟩
  | 47 => ⟨S4x4x8x24000, .f32⟩
  | 48 => ⟨S4x4x24000x4, .f32⟩
  | 49 => ⟨S4x4x4x24000, .f32⟩
  | 50 => ⟨S4x4x4x24000, .f32⟩
  | 51 => ⟨S4x4x8x1, .f32⟩
  | 52 => ⟨S4x4x8, .f32⟩
  | 53 => ⟨S4x4x8x24000, .f32⟩
  | 54 => ⟨S4x4x24000x4, .f32⟩
  | 55 => ⟨S4x4x4x24000, .f32⟩
  | 56 => ⟨S4x4x4x24000, .f32⟩
  | 57 => ⟨S4x16x24000, .f32⟩
  | 58 => ⟨S1x16x1, .f32⟩
  | 59 => ⟨S4x16x24000, .f32⟩
  | 60 => ⟨S4x16x24000, .f32⟩
  | 61 => ⟨S_, .f32⟩
  | 62 => ⟨S4x16x24000, .f32⟩
  | 63 => ⟨S4x16x24000, .i1⟩
  | 64 => ⟨S_, .f32⟩
  | 65 => ⟨S4x16x24000, .f32⟩
  | 66 => ⟨S4x16x24000, .f32⟩
  | 67 => ⟨S4x16x24000, .f32⟩
  | 68 => ⟨S_, .i32⟩
  | 69 => ⟨S_, .f32⟩
  | 70 => ⟨S4x16x24000, .f32⟩
  | 71 => ⟨S4x1x16x24000, .f32⟩
  | 72 => ⟨S1x8x16x1, .f32⟩
  | 73 => ⟨S1x8x16, .f32⟩
  | 74 => ⟨S1x4x24000x8, .f32⟩
  | 75 => ⟨S4x1x8x24000, .f32⟩
  | 76 => ⟨S_, .f32⟩
  | 77 => ⟨S4x1x8x24000, .f32⟩
  | 78 => ⟨S4x1x8x24000, .f32⟩
  | 79 => ⟨S4x8x24000, .f32⟩
  | 80 => ⟨S1x8x1, .f32⟩
  | 81 => ⟨S4x8x24000, .f32⟩
  | 82 => ⟨S4x8x24000, .f32⟩
  | 83 => ⟨S_, .i32⟩
  | 84 => ⟨S_, .f32⟩
  | 85 => ⟨S4x32x24002, .f32⟩
  | 86 => ⟨S4x1x32x24002, .f32⟩
  | 87 => ⟨S1x16x32x3, .f32⟩
  | 88 => ⟨S1x16x32x1, .f32⟩
  | 89 => ⟨S1x16x32, .f32⟩
  | 90 => ⟨S4x1x32x24000, .f32⟩
  | 91 => ⟨S1x4x24000x16, .f32⟩
  | 92 => ⟨S4x1x16x24000, .f32⟩
  | 93 => ⟨S_, .f32⟩
  | 94 => ⟨S4x1x16x24000, .f32⟩
  | 95 => ⟨S4x1x16x24000, .f32⟩
  | 96 => ⟨S1x16x32x1, .f32⟩
  | 97 => ⟨S1x16x32, .f32⟩
  | 98 => ⟨S4x1x32x24000, .f32⟩
  | 99 => ⟨S1x4x24000x16, .f32⟩
  | 100 => ⟨S4x1x16x24000, .f32⟩
  | 101 => ⟨S4x1x16x24000, .f32⟩
  | 102 => ⟨S1x16x32x1, .f32⟩
  | 103 => ⟨S1x16x32, .f32⟩
  | 104 => ⟨S4x1x32x24000, .f32⟩
  | 105 => ⟨S1x4x24000x16, .f32⟩
  | 106 => ⟨S4x1x16x24000, .f32⟩
  | 107 => ⟨S4x1x16x24000, .f32⟩
  | 108 => ⟨S4x16x24000, .f32⟩
  | 109 => ⟨S1x16x1, .f32⟩
  | 110 => ⟨S4x16x24000, .f32⟩
  | 111 => ⟨S4x16x24000, .f32⟩
  | 112 => ⟨S_, .f32⟩
  | 113 => ⟨S4x16x24000, .f32⟩
  | 114 => ⟨S4x16x24000, .i1⟩
  | 115 => ⟨S_, .f32⟩
  | 116 => ⟨S4x16x24000, .f32⟩
  | 117 => ⟨S4x16x24000, .f32⟩
  | 118 => ⟨S4x16x24000, .f32⟩
  | 119 => ⟨S_, .i32⟩
  | 120 => ⟨S_, .f32⟩
  | 121 => ⟨S4x16x24000, .f32⟩
  | 122 => ⟨S4x1x16x24000, .f32⟩
  | 123 => ⟨S1x14x16x1, .f32⟩
  | 124 => ⟨S1x14x16, .f32⟩
  | 125 => ⟨S1x4x24000x14, .f32⟩
  | 126 => ⟨S4x1x14x24000, .f32⟩
  | 127 => ⟨S_, .f32⟩
  | _ => ⟨S4x64x24000, .f32⟩

abbrev hbmTy0_3 (i : Nat) : BufTy := match i % 128 with
  | 0 => ⟨S4x1x14x24000, .f32⟩
  | 1 => ⟨S4x1x14x24000, .f32⟩
  | 2 => ⟨S4x14x24000, .f32⟩
  | 3 => ⟨S1x14x1, .f32⟩
  | 4 => ⟨S4x14x24000, .f32⟩
  | 5 => ⟨S4x14x24000, .f32⟩
  | 6 => ⟨S4x60x24000, .f32⟩
  | _ => ⟨S4x64x24000, .f32⟩

abbrev hbmTy (i : Nat) : BufTy := match i / 128 with
  | 0 => hbmTy0_0 i
  | 1 => hbmTy0_1 i
  | 2 => hbmTy0_2 i
  | 3 => hbmTy0_3 i
  | _ => ⟨S4x64x24000, .f32⟩

abbrev bufTy : (tb : Table) → Fin (tcTables nBuf tb) → BufTy
  | .hbm, ⟨i, _⟩ => hbmTy i
  | _, _ => ⟨S4x64x24000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_c : Ref sig .tc := ⟨.hbm, 27, rfl⟩
abbrev main_call0_v0 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_0 : Ref sig .tc := ⟨.hbm, 56, rfl⟩
abbrev main_v26 : Ref sig .tc := ⟨.hbm, 57, rfl⟩
abbrev main_v27 : Ref sig .tc := ⟨.hbm, 58, rfl⟩
abbrev main_cst_1 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_c_2 : Ref sig .tc := ⟨.hbm, 63, rfl⟩
abbrev main_call2_v0 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_3 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_4 : Ref sig .tc := ⟨.hbm, 92, rfl⟩
abbrev main_v57 : Ref sig .tc := ⟨.hbm, 93, rfl⟩
abbrev main_v58 : Ref sig .tc := ⟨.hbm, 94, rfl⟩
abbrev main_cst_5 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_c_6 : Ref sig .tc := ⟨.hbm, 99, rfl⟩
abbrev main_call4_v0 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_7 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_8 : Ref sig .tc := ⟨.hbm, 128, rfl⟩
abbrev main_v88 : Ref sig .tc := ⟨.hbm, 129, rfl⟩
abbrev main_v89 : Ref sig .tc := ⟨.hbm, 130, rfl⟩
abbrev main_cst_9 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_c_10 : Ref sig .tc := ⟨.hbm, 135, rfl⟩
abbrev main_call6_v0 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_cst_11 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_cst_12 : Ref sig .tc := ⟨.hbm, 164, rfl⟩
abbrev main_v119 : Ref sig .tc := ⟨.hbm, 165, rfl⟩
abbrev main_v120 : Ref sig .tc := ⟨.hbm, 166, rfl⟩
abbrev main_cst_13 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_c_14 : Ref sig .tc := ⟨.hbm, 171, rfl⟩
abbrev main_call8_v0 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_cst_15 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_c_16 : Ref sig .tc := ⟨.hbm, 186, rfl⟩
abbrev main_call9_v0 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_cst_17 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_cst_18 : Ref sig .tc := ⟨.hbm, 215, rfl⟩
abbrev main_v162 : Ref sig .tc := ⟨.hbm, 216, rfl⟩
abbrev main_v163 : Ref sig .tc := ⟨.hbm, 217, rfl⟩
abbrev main_cst_19 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_c_20 : Ref sig .tc := ⟨.hbm, 222, rfl⟩
abbrev main_call11_v0 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_cst_21 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_c_22 : Ref sig .tc := ⟨.hbm, 237, rfl⟩
abbrev main_call12_v0 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_cst_23 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_cst_24 : Ref sig .tc := ⟨.hbm, 266, rfl⟩
abbrev main_v205 : Ref sig .tc := ⟨.hbm, 267, rfl⟩
abbrev main_v206 : Ref sig .tc := ⟨.hbm, 268, rfl⟩
abbrev main_cst_25 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_c_26 : Ref sig .tc := ⟨.hbm, 273, rfl⟩
abbrev main_call14_v0 : Ref sig .tc := ⟨.hbm, 274, rfl⟩
abbrev main_v210 : Ref sig .tc := ⟨.hbm, 275, rfl⟩
abbrev main_v211 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_v215 : Ref sig .tc := ⟨.hbm, 280, rfl⟩
abbrev main_cst_27 : Ref sig .tc := ⟨.hbm, 281, rfl⟩
abbrev main_v216 : Ref sig .tc := ⟨.hbm, 282, rfl⟩
abbrev main_v217 : Ref sig .tc := ⟨.hbm, 283, rfl⟩
abbrev main_v218 : Ref sig .tc := ⟨.hbm, 284, rfl⟩
abbrev main_v219 : Ref sig .tc := ⟨.hbm, 285, rfl⟩
abbrev main_v220 : Ref sig .tc := ⟨.hbm, 286, rfl⟩
abbrev main_v221 : Ref sig .tc := ⟨.hbm, 287, rfl⟩
abbrev main_c_28 : Ref sig .tc := ⟨.hbm, 288, rfl⟩
abbrev main_call15_v0 : Ref sig .tc := ⟨.hbm, 289, rfl⟩
abbrev main_v222 : Ref sig .tc := ⟨.hbm, 290, rfl⟩
abbrev main_v223 : Ref sig .tc := ⟨.hbm, 291, rfl⟩
abbrev main_v224 : Ref sig .tc := ⟨.hbm, 292, rfl⟩
abbrev main_v225 : Ref sig .tc := ⟨.hbm, 293, rfl⟩
abbrev main_v226 : Ref sig .tc := ⟨.hbm, 294, rfl⟩
abbrev main_v227 : Ref sig .tc := ⟨.hbm, 295, rfl⟩
abbrev main_v228 : Ref sig .tc := ⟨.hbm, 296, rfl⟩
abbrev main_v229 : Ref sig .tc := ⟨.hbm, 297, rfl⟩
abbrev main_cst_29 : Ref sig .tc := ⟨.hbm, 298, rfl⟩
abbrev main_v230 : Ref sig .tc := ⟨.hbm, 299, rfl⟩
abbrev main_v231 : Ref sig .tc := ⟨.hbm, 300, rfl⟩
abbrev main_v232 : Ref sig .tc := ⟨.hbm, 301, rfl⟩
abbrev main_v233 : Ref sig .tc := ⟨.hbm, 302, rfl⟩
abbrev main_v234 : Ref sig .tc := ⟨.hbm, 303, rfl⟩
abbrev main_v235 : Ref sig .tc := ⟨.hbm, 304, rfl⟩
abbrev main_v236 : Ref sig .tc := ⟨.hbm, 305, rfl⟩
abbrev main_v237 : Ref sig .tc := ⟨.hbm, 306, rfl⟩
abbrev main_v238 : Ref sig .tc := ⟨.hbm, 307, rfl⟩
abbrev main_v239 : Ref sig .tc := ⟨.hbm, 308, rfl⟩
abbrev main_v240 : Ref sig .tc := ⟨.hbm, 309, rfl⟩
abbrev main_v241 : Ref sig .tc := ⟨.hbm, 310, rfl⟩
abbrev main_v242 : Ref sig .tc := ⟨.hbm, 311, rfl⟩
abbrev main_v243 : Ref sig .tc := ⟨.hbm, 312, rfl⟩
abbrev main_v244 : Ref sig .tc := ⟨.hbm, 313, rfl⟩
abbrev main_v245 : Ref sig .tc := ⟨.hbm, 314, rfl⟩
abbrev main_v246 : Ref sig .tc := ⟨.hbm, 315, rfl⟩
abbrev main_v247 : Ref sig .tc := ⟨.hbm, 316, rfl⟩
abbrev main_cst_30 : Ref sig .tc := ⟨.hbm, 317, rfl⟩
abbrev main_v248 : Ref sig .tc := ⟨.hbm, 318, rfl⟩
abbrev main_v249 : Ref sig .tc := ⟨.hbm, 319, rfl⟩
abbrev main_cst_31 : Ref sig .tc := ⟨.hbm, 320, rfl⟩
abbrev main_v250 : Ref sig .tc := ⟨.hbm, 321, rfl⟩
abbrev main_v251 : Ref sig .tc := ⟨.hbm, 322, rfl⟩
abbrev main_v252 : Ref sig .tc := ⟨.hbm, 323, rfl⟩
abbrev main_c_32 : Ref sig .tc := ⟨.hbm, 324, rfl⟩
abbrev main_call17_v0 : Ref sig .tc := ⟨.hbm, 325, rfl⟩
abbrev main_v253 : Ref sig .tc := ⟨.hbm, 326, rfl⟩
abbrev main_v254 : Ref sig .tc := ⟨.hbm, 327, rfl⟩
abbrev main_v255 : Ref sig .tc := ⟨.hbm, 328, rfl⟩
abbrev main_v256 : Ref sig .tc := ⟨.hbm, 329, rfl⟩
abbrev main_v257 : Ref sig .tc := ⟨.hbm, 330, rfl⟩
abbrev main_v258 : Ref sig .tc := ⟨.hbm, 331, rfl⟩
abbrev main_cst_33 : Ref sig .tc := ⟨.hbm, 332, rfl⟩
abbrev main_v259 : Ref sig .tc := ⟨.hbm, 333, rfl⟩
abbrev main_v260 : Ref sig .tc := ⟨.hbm, 334, rfl⟩
abbrev main_v261 : Ref sig .tc := ⟨.hbm, 335, rfl⟩
abbrev main_v262 : Ref sig .tc := ⟨.hbm, 336, rfl⟩
abbrev main_v263 : Ref sig .tc := ⟨.hbm, 337, rfl⟩
abbrev main_v264 : Ref sig .tc := ⟨.hbm, 338, rfl⟩
abbrev main_c_34 : Ref sig .tc := ⟨.hbm, 339, rfl⟩
abbrev main_call18_v0 : Ref sig .tc := ⟨.hbm, 340, rfl⟩
abbrev main_v265 : Ref sig .tc := ⟨.hbm, 341, rfl⟩
abbrev main_v266 : Ref sig .tc := ⟨.hbm, 342, rfl⟩
abbrev main_v267 : Ref sig .tc := ⟨.hbm, 343, rfl⟩
abbrev main_v268 : Ref sig .tc := ⟨.hbm, 344, rfl⟩
abbrev main_v269 : Ref sig .tc := ⟨.hbm, 345, rfl⟩
abbrev main_v270 : Ref sig .tc := ⟨.hbm, 346, rfl⟩
abbrev main_v271 : Ref sig .tc := ⟨.hbm, 347, rfl⟩
abbrev main_v272 : Ref sig .tc := ⟨.hbm, 348, rfl⟩
abbrev main_cst_35 : Ref sig .tc := ⟨.hbm, 349, rfl⟩
abbrev main_v273 : Ref sig .tc := ⟨.hbm, 350, rfl⟩
abbrev main_v274 : Ref sig .tc := ⟨.hbm, 351, rfl⟩
abbrev main_v275 : Ref sig .tc := ⟨.hbm, 352, rfl⟩
abbrev main_v276 : Ref sig .tc := ⟨.hbm, 353, rfl⟩
abbrev main_v277 : Ref sig .tc := ⟨.hbm, 354, rfl⟩
abbrev main_v278 : Ref sig .tc := ⟨.hbm, 355, rfl⟩
abbrev main_v279 : Ref sig .tc := ⟨.hbm, 356, rfl⟩
abbrev main_v280 : Ref sig .tc := ⟨.hbm, 357, rfl⟩
abbrev main_v281 : Ref sig .tc := ⟨.hbm, 358, rfl⟩
abbrev main_v282 : Ref sig .tc := ⟨.hbm, 359, rfl⟩
abbrev main_v283 : Ref sig .tc := ⟨.hbm, 360, rfl⟩
abbrev main_v284 : Ref sig .tc := ⟨.hbm, 361, rfl⟩
abbrev main_v285 : Ref sig .tc := ⟨.hbm, 362, rfl⟩
abbrev main_v286 : Ref sig .tc := ⟨.hbm, 363, rfl⟩
abbrev main_v287 : Ref sig .tc := ⟨.hbm, 364, rfl⟩
abbrev main_v288 : Ref sig .tc := ⟨.hbm, 365, rfl⟩
abbrev main_v289 : Ref sig .tc := ⟨.hbm, 366, rfl⟩
abbrev main_v290 : Ref sig .tc := ⟨.hbm, 367, rfl⟩
abbrev main_cst_36 : Ref sig .tc := ⟨.hbm, 368, rfl⟩
abbrev main_v291 : Ref sig .tc := ⟨.hbm, 369, rfl⟩
abbrev main_v292 : Ref sig .tc := ⟨.hbm, 370, rfl⟩
abbrev main_cst_37 : Ref sig .tc := ⟨.hbm, 371, rfl⟩
abbrev main_v293 : Ref sig .tc := ⟨.hbm, 372, rfl⟩
abbrev main_v294 : Ref sig .tc := ⟨.hbm, 373, rfl⟩
abbrev main_v295 : Ref sig .tc := ⟨.hbm, 374, rfl⟩
abbrev main_c_38 : Ref sig .tc := ⟨.hbm, 375, rfl⟩
abbrev main_call20_v0 : Ref sig .tc := ⟨.hbm, 376, rfl⟩
abbrev main_v296 : Ref sig .tc := ⟨.hbm, 377, rfl⟩
abbrev main_v297 : Ref sig .tc := ⟨.hbm, 378, rfl⟩
abbrev main_v298 : Ref sig .tc := ⟨.hbm, 379, rfl⟩
abbrev main_v299 : Ref sig .tc := ⟨.hbm, 380, rfl⟩
abbrev main_v300 : Ref sig .tc := ⟨.hbm, 381, rfl⟩
abbrev main_v301 : Ref sig .tc := ⟨.hbm, 382, rfl⟩
abbrev main_cst_39 : Ref sig .tc := ⟨.hbm, 383, rfl⟩
abbrev main_v302 : Ref sig .tc := ⟨.hbm, 384, rfl⟩
abbrev main_v303 : Ref sig .tc := ⟨.hbm, 385, rfl⟩
abbrev main_v304 : Ref sig .tc := ⟨.hbm, 386, rfl⟩
abbrev main_v305 : Ref sig .tc := ⟨.hbm, 387, rfl⟩
abbrev main_v306 : Ref sig .tc := ⟨.hbm, 388, rfl⟩
abbrev main_v307 : Ref sig .tc := ⟨.hbm, 389, rfl⟩
abbrev main_v308 : Ref sig .tc := ⟨.hbm, 390, rfl⟩

abbrev nD : Nat := 1
abbrev τ : Topo := Topo.v7x

variable {F : FTy → Type} [FloatOps F]
-- ==== Proof.KernelIdealMask.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Tactic
public import Idealize.ShloMosaic.Lib.WordCmp
public import Idealize.ShloMosaic.Lib.PointwiseCore

@[expose] public section

set_option maxRecDepth 16384

noncomputable section

namespace Cert.KernelIdeal.Net

open Cert.KernelIdeal Cert.KernelIdeal.Gen
open Idealize.ShloMosaic Idealize.ShloMosaic.TcCoe Idealize.ShloMosaic.Tactic

variable {F : FTy → Type} [FloatOps F] [Named F]

/-- The word of time `4096 n + q - 128`, read signed. -/
theorem time_word (n q : ℕ) (hn : n < 6) (hq : q < 4352) :
    (IntOp.addi (Scalar.subi (Scalar.muli (4096#32) (BitVec.ofNat 32 n)) 128#32) (BitVec.ofNat 32 q)).toInt
      = 4096 * (n : ℤ) + q - 128 := by
  simp only [IntOp.addi, IntOp.subi, IntOp.muli, Scalar.subi, Scalar.muli, BitVec.toInt_eq_toNat_cond, BitVec.toNat_add, BitVec.toNat_sub, BitVec.toNat_mul, BitVec.toNat_ofNat]
  split <;> omega

/-- A time word is inside `[0, 24000)` by the two signed comparisons exactly when its time is. -/
theorem time_mask (n q : ℕ) (hn : n < 6) (hq : q < 4352) :
    IntOp.andi
      (IntOp.cmpi .sge (IntOp.addi (Scalar.subi (Scalar.muli (4096#32) (BitVec.ofNat 32 n)) 128#32) (BitVec.ofNat 32 q)) 0#32)
      (IntOp.cmpi .slt (IntOp.addi (Scalar.subi (Scalar.muli (4096#32) (BitVec.ofNat 32 n)) 128#32) (BitVec.ofNat 32 q)) 24000#32)
      = if 128 ≤ 4096 * n + q ∧ 4096 * n + q < 24128 then 1#1 else 0#1 := by
  have h := time_word n q hn hq
  generalize IntOp.addi (Scalar.subi (Scalar.muli (4096#32) (BitVec.ofNat 32 n)) 128#32) (BitVec.ofNat 32 q) = w at h ⊢
  have h0 : (0#32 : BitVec 32).toInt = 0 := rfl
  have h1 : (24000#32 : BitVec 32).toInt = 24000 := rfl
  simp only [IntOp.cmpi, IntOp.andi, BitVec.sle, BitVec.slt, h, h0, h1]
  split_ifs with hc
  · rw [decide_eq_true (by omega), decide_eq_true (by omega)]; rfl
  · by_cases ha : (0 : ℤ) ≤ 4096 * (n : ℤ) + q - 128
    · rw [decide_eq_false (p := 4096 * (n : ℤ) + q - 128 < 24000) (by omega)]; simp
    · rw [decide_eq_false ha]; simp

/-- The lane mask at column `p` of grid point `i` is set exactly on the columns that stand for a time inside
the array: column `p` stands for time `4096 i + p - 128`. -/
theorem mask_apply (i : grid0.Coords) (a : Fin 1) (p : Fin 4352) :
    k0_pay4 i (ix2 a p) = if 128 ≤ 4096 * (i 0).val + p.val ∧ 4096 * (i 0).val + p.val < 24128 then 1#1 else 0#1 := by
  have hi : (i 0).val < 6 := (i 0).isLt
  have hp := p.isLt
  pointwise [k0_pay4]
  generalize (i 0).val = n at hi ⊢
  exact time_mask n p.val hi hp

/-- What the three windows of points hold side by side, rounded and with the columns outside the array zeroed:
the network's input on one grid point. -/
def xin (i : grid0.Coords) (v0 : Vec F S256x128 .f32) (v2 : Vec F S256x4096 .f32) (v4 : Vec F S256x128 .f32) :
    FVec F S256x4352 .bf16 :=
  select (broadcastTo S256x4352 (shapeCast S1x4352 (k0_pay4 i) shapeCasts_S1x4352_S1x4352) broadcasts_S1x4352_S256x4352)
    (truncf .bf16 (concatenate S256x4352 1 [⟨S256x128, shapeCast S256x128 v0 shapeCasts_S256x128_S256x128⟩,
      ⟨S256x4096, shapeCast S256x4096 v2 shapeCasts_S256x4096_S256x4096⟩,
      ⟨S256x128, shapeCast S256x128 v4 shapeCasts_S256x128_S256x128⟩]
      concatenates_S256x128_S256x4096_S256x128_S256x4352_d1) bitsLt_bf16_f32)
    (broadcast S256x4352 (Scalar.ofBits .bf16 0x0000#16))

/-- The first layer's products and bias on an input already masked. -/
def layer1 (x : FVec F S256x4352 .bf16) (w : Vec F S128x768 .bf16) (b : Vec F S128x1 .f32) : FVec F S128x4352 .bf16 :=
  truncf .bf16
    (addf
      (matmul dot_S128x768_S768x4352_S128x4352_1_0_0_1_n_n none (shapeCast S128x768 w shapeCasts_S128x768_S128x768)
        (concatenate S768x4352 0
          [⟨S256x4352, concatenate S256x4352 1
              [⟨S256x1, extractStridedSlice S256x1 ![0, 0] x slices_S256x4352_o0_0_S256x1⟩,
               ⟨S256x4351, extractStridedSlice S256x4351 ![0, 0] x slices_S256x4352_o0_0_S256x4351⟩]
              concatenates_S256x1_S256x4351_S256x4352_d1⟩,
           ⟨S256x4352, x⟩,
           ⟨S256x4352, concatenate S256x4352 1
              [⟨S256x4351, extractStridedSlice S256x4351 ![0, 1] x slices_S256x4352_o0_1_S256x4351⟩,
               ⟨S256x1, extractStridedSlice S256x1 ![0, 4351] x slices_S256x4352_o0_4351_S256x1⟩]
              concatenates_S256x4351_S256x1_S256x4352_d1⟩]
          concatenates_S256x4352_S256x4352_S256x4352_S768x4352_d0)
        (constant S128x4352 .f32 0x00000000#32))
      (broadcastTo S128x4352 (shapeCast S128x1 b shapeCasts_S128x1_S128x1) broadcasts_S128x1_S128x4352))
    bitsLt_bf16_f32

/-- The first layer reads the three windows only through the masked input. -/
theorem pay5_eq (i : grid0.Coords) (v0 : Vec F S256x128 .f32) (v2 : Vec F S256x4096 .f32) (v4 : Vec F S256x128 .f32)
    (w : Vec F S128x768 .bf16) (b : Vec F S128x1 .f32) : k0_pay5 i v0 v2 v4 w b = layer1 (xin i v0 v2 v4) w b := rfl

/-- The masked input at a row and a column: the window that holds the column, or zero off the array. -/
theorem xin_apply (i : grid0.Coords) (v0 : Vec F S256x128 .f32) (v2 : Vec F S256x4096 .f32) (v4 : Vec F S256x128 .f32)
    (r : Fin 256) (p : Fin 4352) :
    xin i v0 v2 v4 (ix2 r p) =
      if 128 ≤ 4096 * (i 0).val + p.val ∧ 4096 * (i 0).val + p.val < 24128 then
        FloatOps.truncf .bf16 bitsLt_bf16_f32
          (if h : p.val < 128 then v0 (ix2 r ⟨p.val, h⟩)
            else if h' : p.val - 128 < 4096 then v2 (ix2 r ⟨p.val - 128, h'⟩)
            else v4 (ix2 r ⟨p.val - 128 - 4096, by omega⟩))
      else Scalar.ofBits .bf16 0x0000#16 := by
  unfold xin
  pointwise [mask_apply]
  split <;> rfl

/-- A point's grid coordinate is its number. -/
theorem coords_val : ∀ t : Fin cfg0.N, ((cfg0.grid.coords t) 0).val = t.val := by decide +kernel

/-- The rows a fetch moves: all of them, for each of the three windows of the input. -/
theorem xsize_rows : ∀ t : Fin cfg0.N, (cfg0.win 0).xsize (cfg0.grid.coords t) 0 = 256
    ∧ (cfg0.win 1).xsize (cfg0.grid.coords t) 0 = 256 ∧ (cfg0.win 2).xsize (cfg0.grid.coords t) 0 = 256 := by
  decide +kernel

/-- The columns a fetch moves: those inside the array. -/
theorem xsize_cols : ∀ t : Fin cfg0.N, (cfg0.win 0).xsize (cfg0.grid.coords t) 1 = 128
    ∧ (cfg0.win 1).xsize (cfg0.grid.coords t) 1 = min 4096 (24000 - 4096 * t.val)
    ∧ (cfg0.win 2).xsize (cfg0.grid.coords t) 1 = (if t.val < 5 then 128 else 64) := by
  decide +kernel

/-- A filled block, at an index the fetch moves, does not depend on what the buffer held before. -/
theorem fill_moved {w : Fin cfg0.W} (t : Fin cfg0.N) (d d' : (cfg0.win w).block.Idx → Elt F (cfg0.win w).elt) (g)
    (j : (cfg0.win w).block.Idx) (h : ∀ a, (j a).val < (cfg0.win w).xsize (cfg0.grid.coords t) a) :
    (cfg0.win w).fill (cfg0.grid.coords t) d g j = (cfg0.win w).fill (cfg0.grid.coords t) d' g j := by
  have hm := ((cfg0.win w).moved_iff (cfg0.grid.coords t) j).mpr h
  unfold Pipeline.Window.fill
  rw [dif_pos hm, dif_pos hm]

/-- The masked input reads only what the fetches moved, so it does not depend on what the buffers held before. -/
theorem xin_fill (t : Fin cfg0.N) (d0 e0 : (cfg0.win 0).block.Idx → Elt F (cfg0.win 0).elt)
    (d1 e1 : (cfg0.win 1).block.Idx → Elt F (cfg0.win 1).elt) (d2 e2 : (cfg0.win 2).block.Idx → Elt F (cfg0.win 2).elt)
    (g0 g1 g2) :
    xin (cfg0.grid.coords t) ((cfg0.win 0).fill (cfg0.grid.coords t) d0 g0)
        ((cfg0.win 1).fill (cfg0.grid.coords t) d1 g1) ((cfg0.win 2).fill (cfg0.grid.coords t) d2 g2)
      = xin (cfg0.grid.coords t) ((cfg0.win 0).fill (cfg0.grid.coords t) e0 g0)
        ((cfg0.win 1).fill (cfg0.grid.coords t) e1 g1) ((cfg0.win 2).fill (cfg0.grid.coords t) e2 g2) := by
  obtain ⟨hr0, hr1, hr2⟩ := xsize_rows t
  obtain ⟨hc0, hc1, hc2⟩ := xsize_cols t
  have ht : t.val < 6 := t.isLt
  funext j
  obtain ⟨r, p, rfl⟩ : ∃ (r : Fin 256) (p : Fin 4352), j = ix2 r p := ⟨j 0, j 1, eq_ix2 j⟩
  have hr := r.isLt
  rw [xin_apply, xin_apply, coords_val]
  split_ifs with hv h1 h2
  · rw [fill_moved t d0 e0 g0 (ix2 r ⟨p.val, h1⟩)]
    intro a; fin_cases a
    · exact lt_of_lt_of_eq hr hr0.symm
    · exact lt_of_lt_of_eq h1 hc0.symm
  · rw [fill_moved t d1 e1 g1 (ix2 r ⟨p.val - 128, h2⟩)]
    intro a; fin_cases a
    · exact lt_of_lt_of_eq hr hr1.symm
    · refine lt_of_lt_of_eq (?_ : p.val - 128 < _) hc1.symm
      omega
  · rw [fill_moved t d2 e2 g2 (ix2 r ⟨p.val - 128 - 4096, by omega⟩)]
    intro a; fin_cases a
    · exact lt_of_lt_of_eq hr hr2.symm
    · refine lt_of_lt_of_eq (?_ : p.val - 128 - 4096 < _) hc2.symm
      have := p.isLt
      split <;> omega
  · rfl

/-! ## What the body writes -/

/-- The third layer before its leaky rectifier, from the windows of points and the first three layers' weights. -/
def hidden (i : grid0.Coords) (v0 : Vec F S256x128 .f32) (v2 : Vec F S256x4096 .f32) (v4 : Vec F S256x128 .f32)
    (w1 : Vec F S128x768 .bf16) (b1 : Vec F S128x1 .f32) (w2 : Vec F S128x384 .bf16) (b2 : Vec F S128x1 .f32)
    (w3 : Vec F S128x384 .bf16) (b3 : Vec F S128x1 .f32) : FVec F S128x4352 .bf16 :=
  k0_pay8 (k0_pay4 i) (k0_pay5 i v0 v2 v4 w1 b1) (k0_pay6 i v0 v2 v4 w1 b1) (k0_pay7 i v0 v2 v4 w1 b1) w2 b2 w3 b3

/-- The block of the result: one slab of 60 rows for each of the four batches. -/
def block (i : grid0.Coords) (v0 : Vec F S256x128 .f32) (v2 : Vec F S256x4096 .f32) (v4 : Vec F S256x128 .f32)
    (w1 : Vec F S128x768 .bf16) (b1 : Vec F S128x1 .f32) (w2 : Vec F S128x384 .bf16) (b2 : Vec F S128x1 .f32)
    (w3 : Vec F S128x384 .bf16) (b3 : Vec F S128x1 .f32) (wh : Vec F S320x384 .bf16) (bh : Vec F S320x1 .f32)
    (wo : Vec F S60x80 .bf16) (bo : Vec F S60x1 .f32) : Vec F S4x60x4096 .f32 :=
  View.canon
    [⟨Rect.unit (s := S4x60x4096) ![3, 0, 0] S1x60x4096.size inb_S4x60x4096_S1x60x4096_3_0_0,
      k0_pay3 (k0_pay10 (k0_pay4 i) (hidden i v0 v2 v4 w1 b1 w2 b2 w3 b3) k0_pay9 wh bh) (k0_pay11 wo) (k0_pay12 bo)⟩,
     ⟨Rect.unit (s := S4x60x4096) ![2, 0, 0] S1x60x4096.size inb_S4x60x4096_S1x60x4096_2_0_0,
      k0_pay2 (k0_pay10 (k0_pay4 i) (hidden i v0 v2 v4 w1 b1 w2 b2 w3 b3) k0_pay9 wh bh) (k0_pay11 wo) (k0_pay12 bo)⟩,
     ⟨Rect.unit (s := S4x60x4096) ![1, 0, 0] S1x60x4096.size inb_S4x60x4096_S1x60x4096_1_0_0,
      k0_pay1 (k0_pay11 wo) (k0_pay12 bo) (k0_pay14 (k0_pay4 i) (hidden i v0 v2 v4 w1 b1 w2 b2 w3 b3) k0_pay9 wh bh)
        (constant S60x4096 .f32 0x00000000#32)⟩,
     ⟨Rect.unit (s := S4x60x4096) ![0, 0, 0] S1x60x4096.size inb_S4x60x4096_S1x60x4096_0_0_0,
      k0_pay13 (k0_pay4 i) (hidden i v0 v2 v4 w1 b1 w2 b2 w3 b3) k0_pay9 wh bh wo bo⟩]

/-- The hidden layers depend on the windows of points only through the masked input. -/
theorem hidden_congr (i : grid0.Coords) {v0 u0 : Vec F S256x128 .f32} {v2 u2 : Vec F S256x4096 .f32} {v4 u4 : Vec F S256x128 .f32}
    (h : xin i v0 v2 v4 = xin i u0 u2 u4)
    (w1 : Vec F S128x768 .bf16) (b1 : Vec F S128x1 .f32) (w2 : Vec F S128x384 .bf16) (b2 : Vec F S128x1 .f32)
    (w3 : Vec F S128x384 .bf16) (b3 : Vec F S128x1 .f32) :
    hidden i v0 v2 v4 w1 b1 w2 b2 w3 b3 = hidden i u0 u2 u4 w1 b1 w2 b2 w3 b3 := by
  have h5 : k0_pay5 i v0 v2 v4 w1 b1 = k0_pay5 i u0 u2 u4 w1 b1 := by rw [pay5_eq, pay5_eq, h]
  unfold hidden k0_pay6 k0_pay7
  rw [h5]

end Cert.KernelIdeal.Net
-- ==== Proof.KernelIdealRun.lean ====
module

public import proofs.«01_k».proof.Proof.KernelIdealMask
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.UnfoldOut

@[expose] public section

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]
local notation "𝕄" => MT nD τ sig Unit (Elt F) ℕ (UR sig nD τ) ℕ
variable (m : (ℓ : Loc nD τ sig) → Buf (Elt F) ℓ) (ρ : Dev nD → PrngReg)

/-! ## The host operations before the region -/

/-- What a buffer holds when the region is entered. -/
abbrev V (c : Dev nD) (b : Ref sig .tc) : Buf (Elt F) ((c : Thread nD τ).loc b) :=
  StableHlo.after hostOps0 (fun b => m (c, b)) b

/-- No host operation before the region takes a fresh buffer. -/
theorem hostOps0_fresh : (hostOps0 : List (HloOp τ sig (Elt F))).Forall fun op => op.fresh = ∅ := by
  simp only [List.Forall]
  repeat' constructor

set_option maxHeartbeats 800000 in
/-- The program is its host operations followed by the one region. -/
theorem hmain (𝒱₀ : Variants) : Pipeline.HMain (Ix := Unit) (Name := ℕ) (U := UR sig nD τ) (Lvl := ℕ) cfgs 0 defs₀ 𝒱₀ m
    (main (F := F)) (V m) :=
  Pipeline.hmain_prefix cfgs 0 defs₀ 𝒱₀ m main hostOps0 hostOps0_sub hostOps0_fresh main_chain

/-- The program's arguments. -/
def params : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26]

/-- A reference that is none of the arguments is another buffer than each of them. -/
theorem param_ne {y : Ref sig .tc} (hy : y ∉ params) {b : Ref sig .tc} (hb : b ∈ params) :
    (Proc.devRef .tc b : DevRef τ sig) ≠ Proc.devRef .tc y :=
  StableHlo.devRef_ne_of_ne fun h => hy (h ▸ hb)

set_option maxHeartbeats 4000000 in
/-- The host operations write none of the arguments. -/
theorem V_param (c : Dev nD) (b : Ref sig .tc) (hb : b ∈ params) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.mem_singleton]
    repeat' apply And.intro
    all_goals exact param_ne (by decide) hb))

/-! ## The blocks the windows stage -/

/-- What window `w`'s fetch at point `t` reads. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- A value for the columns of a buffer that a cut fetch leaves. -/
def dflt (w : Fin cfg0.W) : (cfg0.win w).block.Idx → Elt F (cfg0.win w).elt := fun _ => Classical.choice inferInstance

/-- What window `w`'s buffer holds after its fetch at point `t`, if the rest of it holds the default. -/
def filled (c : Dev nD) (w : Fin cfg0.W) (t : Fin cfg0.N) : (cfg0.win w).block.Idx → Elt F (cfg0.win w).elt :=
  (cfg0.win w).fill (cfg0.grid.coords t) (dflt w) (iblk m c w t)

/-- The block of the result the body writes at point `t`. -/
def outBlk (c : Dev nD) (t : Fin cfg0.N) : Vec F S4x60x4096 .f32 :=
  block (cfg0.grid.coords t) (filled m c 0 t) (filled m c 1 t) (filled m c 2 t) (filled m c 3 t) (filled m c 4 t)
    (filled m c 5 t) (filled m c 6 t) (filled m c 7 t) (filled m c 8 t) (filled m c 9 t) (filled m c 10 t)
    (filled m c 11 t) (filled m c 12 t)

/-! ## The body -/

/-- The four slabs cover the block of the result. -/
theorem slabs_cover (p0 p1 p2 p3 : Vec F S1x60x4096 .f32) (y : S4x60x4096.Idx) :
    ∃ pc ∈ ([⟨Rect.unit (s := S4x60x4096) ![3, 0, 0] S1x60x4096.size inb_S4x60x4096_S1x60x4096_3_0_0, p0⟩,
        ⟨Rect.unit (s := S4x60x4096) ![2, 0, 0] S1x60x4096.size inb_S4x60x4096_S1x60x4096_2_0_0, p1⟩,
        ⟨Rect.unit (s := S4x60x4096) ![1, 0, 0] S1x60x4096.size inb_S4x60x4096_S1x60x4096_1_0_0, p2⟩,
        ⟨Rect.unit (s := S4x60x4096) ![0, 0, 0] S1x60x4096.size inb_S4x60x4096_S1x60x4096_0_0_0, p3⟩] :
        List (View.Piece (Elt F) S4x60x4096 .f32)), y ∈ pc.1.set :=
  View.cover_of_tiled
    [⟨Rect.unit (s := S4x60x4096) ![3, 0, 0] S1x60x4096.size inb_S4x60x4096_S1x60x4096_3_0_0, p0⟩,
     ⟨Rect.unit (s := S4x60x4096) ![2, 0, 0] S1x60x4096.size inb_S4x60x4096_S1x60x4096_2_0_0, p1⟩,
     ⟨Rect.unit (s := S4x60x4096) ![1, 0, 0] S1x60x4096.size inb_S4x60x4096_S1x60x4096_1_0_0, p2⟩,
     ⟨Rect.unit (s := S4x60x4096) ![0, 0, 0] S1x60x4096.size inb_S4x60x4096_S1x60x4096_0_0_0, p3⟩]
    S1x60x4096.size (by rfl) y

/-- A load of the whole of a matrix reads the matrix. -/
theorem ld_whole {n k : ℕ} {e : EltTy} (X : Vec F ⟨2, ![n, k]⟩ e) (inb) :
    View.ld X (Rect.unit (s := ⟨2, ![n, k]⟩) ![0, 0] ![n, k] inb) = X :=
  View.ld_unit_zero (S := ⟨2, ![n, k]⟩) (funext fun a => by fin_cases a <;> rfl) inb X

/-- Loading each input's buffer whole reads what it holds. -/
theorem block_loads (i : grid0.Coords) (x0 : Vec F S256x128 .f32) (x1 : Vec F S256x4096 .f32) (x2 : Vec F S256x128 .f32) (x3 : Vec F S128x768 .bf16) (x4 : Vec F S128x1 .f32) (x5 : Vec F S128x384 .bf16) (x6 : Vec F S128x1 .f32) (x7 : Vec F S128x384 .bf16) (x8 : Vec F S128x1 .f32) (x9 : Vec F S320x384 .bf16) (x10 : Vec F S320x1 .f32) (x11 : Vec F S60x80 .bf16) (x12 : Vec F S60x1 .f32) :
    block i
      (View.ld x0 (Rect.unit (s := S256x128) ![0, 0] S256x128.size inb_S256x128_S256x128_0_0))
      (View.ld x1 (Rect.unit (s := S256x4096) ![0, 0] S256x4096.size inb_S256x4096_S256x4096_0_0))
      (View.ld x2 (Rect.unit (s := S256x128) ![0, 0] S256x128.size inb_S256x128_S256x128_0_0))
      (View.ld x3 (Rect.unit (s := S128x768) ![0, 0] S128x768.size inb_S128x768_S128x768_0_0))
      (View.ld x4 (Rect.unit (s := S128x1) ![0, 0] S128x1.size inb_S128x1_S128x1_0_0))
      (View.ld x5 (Rect.unit (s := S128x384) ![0, 0] S128x384.size inb_S128x384_S128x384_0_0))
      (View.ld x6 (Rect.unit (s := S128x1) ![0, 0] S128x1.size inb_S128x1_S128x1_0_0))
      (View.ld x7 (Rect.unit (s := S128x384) ![0, 0] S128x384.size inb_S128x384_S128x384_0_0))
      (View.ld x8 (Rect.unit (s := S128x1) ![0, 0] S128x1.size inb_S128x1_S128x1_0_0))
      (View.ld x9 (Rect.unit (s := S320x384) ![0, 0] S320x384.size inb_S320x384_S320x384_0_0))
      (View.ld x10 (Rect.unit (s := S320x1) ![0, 0] S320x1.size inb_S320x1_S320x1_0_0))
      (View.ld x11 (Rect.unit (s := S60x80) ![0, 0] S60x80.size inb_S60x80_S60x80_0_0))
      (View.ld x12 (Rect.unit (s := S60x1) ![0, 0] S60x1.size inb_S60x1_S60x1_0_0))
      = block i x0 x1 x2 x3 x4 x5 x6 x7 x8 x9 x10 x11 x12 := by
  simp only [ld_whole]

set_option maxHeartbeats 1000000 in
/-- The body, run on buffers that hold the thirteen inputs, leaves them as they were and the result's buffer holding
`block` of them. -/
theorem run_body (c : Dev nD) (E : Set ℕ) (i : grid0.Coords)
    (a0 : Memref sig .tc .vmem S256x128 .f32) (h0 : a0.IsWhole) (a1 : Memref sig .tc .vmem S256x4096 .f32) (h1 :
    a1.IsWhole) (a2 : Memref sig .tc .vmem S256x128 .f32) (h2 : a2.IsWhole) (a3 : Memref sig .tc .vmem S128x768 .bf16)
    (h3 : a3.IsWhole) (a4 : Memref sig .tc .vmem S128x1 .f32) (h4 : a4.IsWhole) (a5 : Memref sig .tc .vmem S128x384
    .bf16) (h5 : a5.IsWhole) (a6 : Memref sig .tc .vmem S128x1 .f32) (h6 : a6.IsWhole) (a7 : Memref sig .tc .vmem
    S128x384 .bf16) (h7 : a7.IsWhole) (a8 : Memref sig .tc .vmem S128x1 .f32) (h8 : a8.IsWhole) (a9 : Memref sig .tc
    .vmem S320x384 .bf16) (h9 : a9.IsWhole) (a10 : Memref sig .tc .vmem S320x1 .f32) (h10 : a10.IsWhole) (a11 : Memref
    sig .tc .vmem S60x80 .bf16) (h11 : a11.IsWhole) (a12 : Memref sig .tc .vmem S60x1 .f32) (h12 : a12.IsWhole) (a13 :
    Memref sig .tc .vmem S4x60x4096 .f32) (h13 : a13.IsWhole)
    (x0 : Vec F S256x128 .f32) (x1 : Vec F S256x4096 .f32) (x2 : Vec F S256x128 .f32) (x3 : Vec F S128x768 .bf16) (x4
    : Vec F S128x1 .f32) (x5 : Vec F S128x384 .bf16) (x6 : Vec F S128x1 .f32) (x7 : Vec F S128x384 .bf16) (x8 : Vec F
    S128x1 .f32) (x9 : Vec F S320x384 .bf16) (x10 : Vec F S320x1 .f32) (x11 : Vec F S60x80 .bf16) (x12 : Vec F S60x1
    .f32)
    (K : PUnit → sProp 𝕄) :
    iprop(owns (c : Thread nD τ) a0 fullShare x0 ∗ owns (c : Thread nD τ) a1 fullShare x1 ∗ owns (c : Thread nD τ) a2
      fullShare x2 ∗ owns (c : Thread nD τ) a3 fullShare x3 ∗ owns (c : Thread nD τ) a4 fullShare x4 ∗ owns (c :
      Thread nD τ) a5 fullShare x5 ∗ owns (c : Thread nD τ) a6 fullShare x6 ∗ owns (c : Thread nD τ) a7 fullShare x7 ∗
      owns (c : Thread nD τ) a8 fullShare x8 ∗ owns (c : Thread nD τ) a9 fullShare x9 ∗ owns (c : Thread nD τ) a10
      fullShare x10 ∗ owns (c : Thread nD τ) a11 fullShare x11 ∗ owns (c : Thread nD τ) a12 fullShare x12
        ∗ (∃ d, owns (c : Thread nD τ) a13 fullShare d)
        ∗ (iprop(owns (c : Thread nD τ) a0 fullShare x0 ∗ owns (c : Thread nD τ) a1 fullShare x1 ∗ owns (c : Thread nD τ) a2
      fullShare x2 ∗ owns (c : Thread nD τ) a3 fullShare x3 ∗ owns (c : Thread nD τ) a4 fullShare x4 ∗ owns (c :
      Thread nD τ) a5 fullShare x5 ∗ owns (c : Thread nD τ) a6 fullShare x6 ∗ owns (c : Thread nD τ) a7 fullShare x7 ∗
      owns (c : Thread nD τ) a8 fullShare x8 ∗ owns (c : Thread nD τ) a9 fullShare x9 ∗ owns (c : Thread nD τ) a10
      fullShare x10 ∗ owns (c : Thread nD τ) a11 fullShare x11 ∗ owns (c : Thread nD τ) a12 fullShare x12
        ∗ owns (c : Thread nD τ) a13 fullShare (block i x0 x1 x2 x3 x4 x5 x6 x7 x8 x9 x10 x11 x12)) -∗ K ⟨⟩))
      ⊢ wp frame (wpE (defs₀ (F := F)) Variants.none c none) E
        (cc0__net_kernel i a0 h0 a1 h1 a2 h2 a3 h3 a4 h4 a5 h5 a6 h6 a7 h7 a8 h8 a9 h9 a10 h10 a11 h11 a12 h12 a13
        h13) K := by
  simp only [cc0__net_kernel_eq_skeleton]
  unfold cc0__net_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  refine (View.read_writes_eq_canon _ _ _ (slabs_cover _ _ _ _)).trans (Eq.trans ?_ (block_loads i _ _ _ _ _ _ _ _ _ _ _ _ _))
  rfl

/-! ## The pipeline's proof data -/

/-- The proof data of the pipeline on core `c`: each input's buffer keeps what its fetch brought, the result's holds
`outBlk`; nothing else changes hands. -/
def dats (_ : Fin 1) (c : Dev nD) : Dat τ (Elt F) Unit ℕ (UR sig nD τ) ℕ cfg0 c where
  A w := V m c (Pipeline.arrRef spec0 w)
  after w t := match w with
    | ⟨0, _⟩ => filled m c 0 t
    | ⟨1, _⟩ => filled m c 1 t
    | ⟨2, _⟩ => filled m c 2 t
    | ⟨3, _⟩ => filled m c 3 t
    | ⟨4, _⟩ => filled m c 4 t
    | ⟨5, _⟩ => filled m c 5 t
    | ⟨6, _⟩ => filled m c 6 t
    | ⟨7, _⟩ => filled m c 7 t
    | ⟨8, _⟩ => filled m c 8 t
    | ⟨9, _⟩ => filled m c 9 t
    | ⟨10, _⟩ => filled m c 10 t
    | ⟨11, _⟩ => filled m c 11 t
    | ⟨12, _⟩ => filled m c 12 t
    | ⟨13, _⟩ => outBlk m c t
  Φ _ := Pipeline.ΦA spec0 c
  q w := Pipeline.shareOf spec0 w
  owed _ := 0

/-- The arrays of the proof data are what the region finds. -/
theorem A_eq (c : Dev nD) (w : Fin cfg0.W) : (dats m 0 c).A w = V m c (Pipeline.arrRef spec0 w) := by
  dsimp only [dats]

/-- What an input's buffer holds after the body is what its fetch brought. -/
theorem after_in (c : Dev nD) (w : Fin cfg0.W) (hw : w ≠ 13) (t : Fin cfg0.N) : (dats m 0 c).after w t = filled m c w t := by
  fin_cases w <;> first | exact absurd rfl hw | (dsimp only [dats]; rfl)

/-- What the result's buffer holds after the body. -/
theorem after_out (c : Dev nD) (t : Fin cfg0.N) : (dats m 0 c).after 13 t = outBlk m c t := by
  dsimp only [dats]

/-- Every window but the last is an input. -/
theorem win_in : ∀ w : Fin cfg0.W, w ≠ 13 → (cfg0.win w).isOut = false := by decide

/-- An input's fetches of one block are cut alike. -/
theorem win_clip : ∀ w : Fin cfg0.W, w ≠ 13 → ∀ t t' : Fin cfg0.N, (cfg0.win w).index t = (cfg0.win w).index t' →
    (cfg0.win w).clip (cfg0.grid.coords t) = (cfg0.win w).clip (cfg0.grid.coords t') := by decide +kernel

/-- The windows that stage a whole array are never cut. -/
theorem win_whole : ∀ w : Fin cfg0.W, 3 ≤ w.val ∧ w.val < 13 → ∀ t : Fin cfg0.N, ∀ a,
    (cfg0.win w).xsize (cfg0.grid.coords t) a = (cfg0.win w).size a := by decide +kernel

/-- An input's buffer holds, when the body runs, the point's block over whatever it held before the fetch. -/
theorem before_in (c : Dev nD) (w : Fin cfg0.W) (hw : w ≠ 13) (t : Fin cfg0.N) (d) :
    (dats m 0 c).before w t d = (cfg0.win w).fill (cfg0.grid.coords t) d (iblk m c w t) := by
  have hb : (dats m 0 c).blockOf w t = iblk m c w t := by
    unfold Dat.blockOf iblk
    rw [A_eq]
  refine ((dats m 0 c).before_in_eq_fetched w (win_in w hw) (fun _ => rfl) (win_clip w hw) (fun t => ?_) t d).trans ?_
  · rw [after_in m c w hw, filled, Pipeline.Window.cut_fill]
    unfold Dat.blockOf iblk
    rw [A_eq]
  · unfold Dat.fetched
    rw [hb]

/-- The windows that are never cut: what the buffer held before a fetch does not show. -/
theorem fill_whole (c : Dev nD) (w : Fin cfg0.W) (hw : 3 ≤ w.val ∧ w.val < 13) (t : Fin cfg0.N) (d) :
    (cfg0.win w).fill (cfg0.grid.coords t) d (iblk m c w t) = filled m c w t := by
  funext j
  exact fill_moved t _ _ _ j fun a => by rw [win_whole w hw t a]; exact (j a).isLt

/-- The body table's row is the body at the point's buffers. -/
theorem defs₀_row (t : Fin cfg0.N) :
    defs₀ (F := F) .tc cfg0.body (cfg0.bodyArgs t (cfg0.slots t)) = bodyAt0 t := by
  unfold defs₀; rw [Defs.onTc_tc]

/-- Run on the buffers as the fetches leave them, the body writes `outBlk`. -/
theorem block_eq (c : Dev nD) (t : Fin cfg0.N) (d0 : (cfg0.win 0).block.Idx → Elt F (cfg0.win 0).elt)
    (d1 : (cfg0.win 1).block.Idx → Elt F (cfg0.win 1).elt) (d2 : (cfg0.win 2).block.Idx → Elt F (cfg0.win 2).elt) :
    block (cfg0.grid.coords t) ((cfg0.win 0).fill (cfg0.grid.coords t) d0 (iblk m c 0 t))
      ((cfg0.win 1).fill (cfg0.grid.coords t) d1 (iblk m c 1 t)) ((cfg0.win 2).fill (cfg0.grid.coords t) d2 (iblk m c 2 t))
      (filled m c 3 t) (filled m c 4 t) (filled m c 5 t) (filled m c 6 t) (filled m c 7 t) (filled m c 8 t) (filled m c 9 t)
      (filled m c 10 t) (filled m c 11 t) (filled m c 12 t) = outBlk m c t := by
  unfold outBlk block
  rw [hidden_congr (cfg0.grid.coords t) (xin_fill t d0 (dflt 0) d1 (dflt 1) d2 (dflt 2) _ _ _)]
  rfl

set_option maxHeartbeats 1000000 in
/-- The body at every point: from the buffers as the fetches leave them to what the proof data say. -/
theorem body_obligation (c : Dev nD) : BodyObligationLoose (dats (F := F) m 0 c) (defs₀ (F := F)) Variants.none () Set.univ := fun t => by
  rw [bigSep_W0, bigSep_W0, defs₀_row]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  rw [before_in m c 0 (by decide) t d0, before_in m c 1 (by decide) t d1, before_in m c 2 (by decide) t d2]
  rw [before_in m c 3 (by decide) t d3, fill_whole m c 3 (by decide), before_in m c 4 (by decide) t d4, fill_whole m c 4 (by decide), before_in m c 5 (by decide) t d5, fill_whole m c 5 (by decide), before_in m c 6 (by decide) t d6, fill_whole m c 6 (by decide), before_in m c 7 (by decide) t d7, fill_whole m c 7 (by decide), before_in m c 8 (by decide) t d8, fill_whole m c 8 (by decide), before_in m c 9 (by decide) t d9, fill_whole m c 9 (by decide), before_in m c 10 (by decide) t d10, fill_whole m c 10 (by decide), before_in m c 11 (by decide) t d11, fill_whole m c 11 (by decide), before_in m c 12 (by decide) t d12, fill_whole m c 12 (by decide)]
  unfold bodyAt0
  iapply (run_body c Set.univ (grid0.coords t) _ _ _ _ _ _ _ _ _ _ _ _ _ _ _ _ _ _ _ _ _ _ _ _ _ _ _ _
    ((cfg0.win 0).fill (cfg0.grid.coords t) d0 (iblk m c 0 t))
    ((cfg0.win 1).fill (cfg0.grid.coords t) d1 (iblk m c 1 t)) ((cfg0.win 2).fill (cfg0.grid.coords t) d2 (iblk m c 2 t))
    (filled m c 3 t) (filled m c 4 t) (filled m c 5 t) (filled m c 6 t) (filled m c 7 t) (filled m c 8 t) (filled m c 9 t) (filled m c 10 t) (filled m c 11 t) (filled m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]
  · iexists d0
    rw [after_in m c 0 (by decide), filled, Pipeline.Window.cut_fill]
    iexact H0
  isplitl [H1]
  · iexists d1
    rw [after_in m c 1 (by decide), filled, Pipeline.Window.cut_fill]
    iexact H1
  isplitl [H2]
  · iexists d2
    rw [after_in m c 2 (by decide), filled, Pipeline.Window.cut_fill]
    iexact H2
  isplitl [H3]; · rw [after_in m c 3 (by decide)]; iexact H3
  isplitl [H4]; · rw [after_in m c 4 (by decide)]; iexact H4
  isplitl [H5]; · rw [after_in m c 5 (by decide)]; iexact H5
  isplitl [H6]; · rw [after_in m c 6 (by decide)]; iexact H6
  isplitl [H7]; · rw [after_in m c 7 (by decide)]; iexact H7
  isplitl [H8]; · rw [after_in m c 8 (by decide)]; iexact H8
  isplitl [H9]; · rw [after_in m c 9 (by decide)]; iexact H9
  isplitl [H10]; · rw [after_in m c 10 (by decide)]; iexact H10
  isplitl [H11]; · rw [after_in m c 11 (by decide)]; iexact H11
  isplitl [H12]; · rw [after_in m c 12 (by decide)]; iexact H12
  iexists (outBlk m c t)
  rw [after_out, Pipeline.Window.fill_cut, block_eq]
  iexact H13

/-! ## The run -/

-- the conclusion's implicit arguments are found by unfolding plain definitions in a metavariable's type
set_option backward.isDefEq.respectTransparency.types false in
set_option maxHeartbeats 800000 in
/-- Every run ends; at the end the arrays of the pipeline hold what the proof data say, every other buffer that lives
on holds what the region found, and no semaphore counts anything. -/
theorem run_main : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := body_obligation m) (hq := fun _ _ _ => rfl)
    (howed := fun _ _ => rfl) (V := V m) (hmain := hmain m Variants.none) (hA := A_eq m) (hΦ := fun _ _ => rfl)

/-- No window stages an argument. -/
theorem params_rest : ∀ b ∈ params, b ∈ Pipeline.restRefs sig (cfgs 0).spec := by
  intro b hb
  refine Pipeline.mem_restRefs_of b ?_ ?_ <;> revert b <;> decide

/-- After the run an argument holds what it held before. -/
theorem post_param {r : PUnit × MemSt nD τ sig (Elt F)} (h : Pipeline.FramePost cfgs (dats m) 0 (V m) r)
    (c : Dev nD) (b : Ref sig .tc) (hb : b ∈ params) : r.2.mem ((c : Thread nD τ).loc b) = m ((c : Thread nD τ).loc b) :=
  ((h c).2 b (params_rest b hb)).trans (V_param m c b hb)

end Cert.KernelIdeal.Net
-- ==== Proof.Spec.lean ====
module

public import Idealize.ShloMosaic.Lib.Pointwise

@[expose] public section

noncomputable section

/-! # The network as plain sums

Both programs are read as the same function: three convolutions of three taps with a leaky rectifier each, five
heads of one more such layer, and one product per point. A weight is a function of natural numbers (output channel,
input channel, tap), a signal a function of natural numbers (batch, channel, time), where time runs 128 ahead of
the array's own so that the zeros on both sides have a place. A grouped convolution's weight is zero between
channels of different groups. -/

namespace Cert.Spec

/-- A signal: batch, channel, time moved by 128. -/
abbrev Sig := ℕ → ℕ → ℕ → EReal

/-- The number the leaky rectifier multiplies by: the float nearest to one fifth. -/
def slope : EReal := ((13421773 / 67108864 : ℝ) : EReal)

/-- The leaky rectifier. -/
def lrelu (x : EReal) : EReal := if 0 < x then x else slope * x

/-- The moved time is one of the array's. -/
def Inside (u : ℕ) : Prop := 128 ≤ u ∧ u < 24128

instance (u : ℕ) : Decidable (Inside u) := inferInstanceAs (Decidable (_ ∧ _))

/-- A signal with zeros off the array. -/
def masked (h : Sig) : Sig := fun n o u => if Inside u then h n o u else 0

/-- The leaky rectifier on a signal. -/
def rect (h : Sig) : Sig := fun n o u => lrelu (h n o u)

/-- A signal at equal places. -/
theorem Sig.at_eq (h : Sig) {n n' o o' u u' : ℕ} (hn : n = n') (ho : o = o') (hu : u = u') : h n o u = h n' o' u' := by
  rw [hn, ho, hu]

/-- A convolution of three taps over `I` input channels, plus a bias. -/
def conv (I : ℕ) (W : ℕ → ℕ → ℕ → EReal) (b : ℕ → EReal) (h : Sig) : Sig := fun n o u =>
  ((∑ i : Fin I, W o i 0 * h n i (u - 1)) + (∑ i : Fin I, W o i 1 * h n i u)
    + (∑ i : Fin I, W o i 2 * h n i (u + 1))) + b o

/-- What the network is made of. -/
structure Net where
  /-- the input: batch, channel, time -/
  x : ℕ → ℕ → ℕ → EReal
  /-- the first layer's weight -/
  w1 : ℕ → ℕ → ℕ → EReal
  /-- the first layer's bias -/
  b1 : ℕ → EReal
  /-- the second layer's weight -/
  w2 : ℕ → ℕ → ℕ → EReal
  /-- the second layer's bias -/
  b2 : ℕ → EReal
  /-- the third layer's weight -/
  w3 : ℕ → ℕ → ℕ → EReal
  /-- the third layer's bias -/
  b3 : ℕ → EReal
  /-- the five heads' first weights, one head after the other -/
  wh : ℕ → ℕ → ℕ → EReal
  /-- the five heads' first biases -/
  bh : ℕ → EReal
  /-- the five heads' second weights -/
  wo : ℕ → ℕ → EReal
  /-- the five heads' second biases -/
  bo : ℕ → EReal

namespace Net

variable (N : Net)

/-- The input at moved times, zero off the array. -/
def s0 : Sig := masked fun n c u => N.x n c (u - 128)

/-- After the first layer. -/
def s1 : Sig := masked (rect (conv 64 N.w1 N.b1 N.s0))

/-- After the second layer. -/
def s2 : Sig := masked (rect (conv 32 N.w2 N.b2 N.s1))

/-- After the third layer. -/
def s3 : Sig := masked (rect (conv 32 N.w3 N.b3 N.s2))

/-- The heads' hidden channels, 16 for each of the five. -/
def sh : Sig := rect (conv 32 N.wh N.bh N.s3)

/-- The result: batch, output channel, moved time. -/
def out : Sig := fun n q u => (∑ k : Fin 80, N.wo q k * N.sh n k u) + N.bo q

end Net

/-! ## Sums over blocks -/

/-- A sum over three times `n` terms, by thirds. -/
theorem sum_thirds (n M : ℕ) (hM : M = n + n + n) (f : Fin M → EReal) :
    ∑ k, f k = (∑ k : Fin n, f ⟨k.val, by omega⟩) + (∑ k : Fin n, f ⟨n + k.val, by omega⟩)
      + (∑ k : Fin n, f ⟨n + n + k.val, by omega⟩) := by
  subst hM
  rw [Fin.sum_univ_add, Fin.sum_univ_add]
  rfl

/-- A sum over `n` blocks of `m` terms in which only block `b` has weights is the sum over that block. -/
theorem sum_block (n m M b : ℕ) (hM : M = n * m) (hb : b < n) (f : ℕ → EReal) (X : ℕ → ℕ → EReal) :
    (∑ k : Fin M, (if b = k.val / m then f (k.val % m) else 0) * X (k.val / m) (k.val % m))
      = ∑ i : Fin m, f i * X b i := by
  subst hM
  rcases Nat.eq_zero_or_pos m with rfl | hm
  · simp
  rw [← finProdFinEquiv.sum_comp, Fintype.sum_prod_type, Finset.sum_eq_single (⟨b, hb⟩ : Fin n)]
  · refine Finset.sum_congr rfl fun i _ => ?_
    have h1 : (i.val + m * b) / m = b := by
      rw [Nat.add_mul_div_left _ _ hm, Nat.div_eq_of_lt i.isLt, Nat.zero_add]
    have h2 : (i.val + m * b) % m = i.val := by rw [Nat.add_mul_mod_self_left, Nat.mod_eq_of_lt i.isLt]
    simp only [finProdFinEquiv_apply_val, h1, h2, if_true]
  · intro a _ hne
    refine Finset.sum_eq_zero fun i _ => ?_
    have h1 : (i.val + m * a.val) / m = a.val := by
      rw [Nat.add_mul_div_left _ _ hm, Nat.div_eq_of_lt i.isLt, Nat.zero_add]
    have : b ≠ a.val := fun h => hne (Fin.ext h.symm)
    simp only [finProdFinEquiv_apply_val, h1, if_neg this, zero_mul]
  · intro h; exact absurd (Finset.mem_univ _) h

/-- The same over channels counted through: only the channels of group `g` have weights. -/
theorem sum_group (n m M g : ℕ) (hM : M = n * m) (hg : g < n) (f : ℕ → EReal) (h : ℕ → EReal) :
    (∑ k : Fin M, (if g = k.val / m then f (k.val % m) else 0) * h k.val) = ∑ i : Fin m, f i * h (g * m + i) := by
  rw [← sum_block n m M g hM hg f (fun a i => h (a * m + i))]
  refine Finset.sum_congr rfl fun k _ => ?_
  rw [Nat.div_add_mod']

/-- Row `k` of three times four blocks of `I` rows: tap, block and channel. A row of weights with one block per
tap, times the three neighbours of a signal, is one output of a convolution. -/
theorem sum_taps (I R K b u : ℕ) (hR : R = 4 * I) (hK : K = R + R + R) (hb : b < 4) (W : ℕ → ℕ → EReal) (h : Sig)
    (A X : Fin K → EReal)
    (hA : ∀ k, A k = if b = k.val % R / I then W (k.val % I) (k.val / R) else 0)
    (h0 : ∀ k : Fin R, X ⟨k.val, by omega⟩ = h (k.val / I) (k.val % I) (u - 1))
    (h1 : ∀ k : Fin R, X ⟨R + k.val, by omega⟩ = h (k.val / I) (k.val % I) u)
    (h2 : ∀ k : Fin R, X ⟨R + R + k.val, by omega⟩ = h (k.val / I) (k.val % I) (u + 1)) :
    ∑ k, A k * X k = (∑ i : Fin I, W i 0 * h b i (u - 1)) + (∑ i : Fin I, W i 1 * h b i u)
      + (∑ i : Fin I, W i 2 * h b i (u + 1)) := by
  rw [sum_thirds R K hK]
  have hm : ∀ (j : ℕ) (k : Fin R), (R * j + k.val) % R = k.val ∧ (R * j + k.val) / R = j
      ∧ (R * j + k.val) % I = k.val % I := fun j k => by
    have hpos : 0 < R := k.pos
    refine ⟨by rw [Nat.mul_add_mod, Nat.mod_eq_of_lt k.isLt],
      by rw [Nat.mul_add_div hpos, Nat.div_eq_of_lt k.isLt, Nat.add_zero], ?_⟩
    have e : R * j = I * (4 * j) := by rw [hR]; ring
    rw [e, Nat.mul_add_mod]
  refine congrArg₂ (· + ·) (congrArg₂ (· + ·) ?_ ?_) ?_
  · rw [← sum_block 4 I R b hR hb (fun i => W i 0) (fun n i => h n i (u - 1))]
    refine Finset.sum_congr rfl fun k _ => ?_
    have := hm 0 k
    simp only [Nat.mul_zero, Nat.zero_add] at this
    rw [hA, h0]
    simp only [this]
  · rw [← sum_block 4 I R b hR hb (fun i => W i 1) (fun n i => h n i u)]
    refine Finset.sum_congr rfl fun k _ => ?_
    have := hm 1 k
    simp only [Nat.mul_one] at this
    rw [hA, h1]
    simp only [this]
  · rw [← sum_block 4 I R b hR hb (fun i => W i 2) (fun n i => h n i (u + 1))]
    refine Finset.sum_congr rfl fun k _ => ?_
    have := hm 2 k
    simp only [Nat.mul_two] at this
    rw [hA, h2]
    simp only [this]

end Cert.Spec
-- ==== Proof.Args.lean ====
module

public import proofs.«01_k».proof.Proof.Spec

@[expose] public section

noncomputable section

/-! # The network of the twenty-seven arguments -/

namespace Cert.Spec

open Idealize.ShloMosaic

/-- An array of one axis as a function of a natural number, zero past the end. -/
def at1 {a : ℕ} (w : FVec Ideal ⟨1, ![a]⟩ .f32) (o : ℕ) : EReal :=
  if h : o < a then w (ix1 ⟨o, h⟩) else 0

/-- An array of three axes as a function of natural numbers, zero past the ends. -/
def at3 {a b e : ℕ} (w : FVec Ideal ⟨3, ![a, b, e]⟩ .f32) (o i j : ℕ) : EReal :=
  if h : o < a ∧ i < b ∧ j < e then w (ix3 ⟨o, h.1⟩ ⟨i, h.2.1⟩ ⟨j, h.2.2⟩) else 0

/-- An entry of an array of one axis. -/
theorem at1_of {a : ℕ} (w : FVec Ideal ⟨1, ![a]⟩ .f32) {o o' : ℕ} (h : o < a) (e : o = o') :
    (w (ix1 ⟨o, h⟩) : EReal) = at1 w o' := by
  subst e; rw [at1, dif_pos h]

/-- An entry of an array of three axes. -/
theorem at3_of {a b e : ℕ} (w : FVec Ideal ⟨3, ![a, b, e]⟩ .f32) {o o' i i' j j' : ℕ} (ho : o < a) (hi : i < b)
    (hj : j < e) (eo : o = o') (ei : i = i') (ej : j = j') :
    (w (ix3 ⟨o, ho⟩ ⟨i, hi⟩ ⟨j, hj⟩) : EReal) = at3 w o' i' j' := by
  subst eo ei ej; rw [at3, dif_pos ⟨ho, hi, hj⟩]

/-- The arguments of both programs, at the ideal floats. -/
structure Args where
  /-- the input -/
  x : FVec Ideal ⟨3, ![4, 64, 24000]⟩ .f32
  /-- the first layer's weight -/
  w1 : FVec Ideal ⟨3, ![32, 64, 3]⟩ .f32
  /-- the first layer's bias -/
  b1 : FVec Ideal ⟨1, ![32]⟩ .f32
  /-- the second layer's weight, four groups -/
  w2 : FVec Ideal ⟨3, ![32, 8, 3]⟩ .f32
  /-- the second layer's bias -/
  b2 : FVec Ideal ⟨1, ![32]⟩ .f32
  /-- the third layer's weight -/
  w3 : FVec Ideal ⟨3, ![32, 32, 3]⟩ .f32
  /-- the third layer's bias -/
  b3 : FVec Ideal ⟨1, ![32]⟩ .f32
  /-- the first head's first weight, four groups -/
  u0 : FVec Ideal ⟨3, ![16, 8, 3]⟩ .f32
  /-- the first head's first bias -/
  c0 : FVec Ideal ⟨1, ![16]⟩ .f32
  /-- the first head's second weight -/
  v0 : FVec Ideal ⟨3, ![12, 16, 1]⟩ .f32
  /-- the first head's second bias -/
  d0 : FVec Ideal ⟨1, ![12]⟩ .f32
  /-- the second head's first weight, four groups -/
  u1 : FVec Ideal ⟨3, ![16, 8, 3]⟩ .f32
  /-- the second head's first bias -/
  c1 : FVec Ideal ⟨1, ![16]⟩ .f32
  /-- the second head's second weight -/
  v1 : FVec Ideal ⟨3, ![14, 16, 1]⟩ .f32
  /-- the second head's second bias -/
  d1 : FVec Ideal ⟨1, ![14]⟩ .f32
  /-- the third head's first weight, four groups -/
  u2 : FVec Ideal ⟨3, ![16, 8, 3]⟩ .f32
  /-- the third head's first bias -/
  c2 : FVec Ideal ⟨1, ![16]⟩ .f32
  /-- the third head's second weight -/
  v2 : FVec Ideal ⟨3, ![12, 16, 1]⟩ .f32
  /-- the third head's second bias -/
  d2 : FVec Ideal ⟨1, ![12]⟩ .f32
  /-- the fourth head's first weight, four groups -/
  u3 : FVec Ideal ⟨3, ![16, 8, 3]⟩ .f32
  /-- the fourth head's first bias -/
  c3 : FVec Ideal ⟨1, ![16]⟩ .f32
  /-- the fourth head's second weight -/
  v3 : FVec Ideal ⟨3, ![8, 16, 1]⟩ .f32
  /-- the fourth head's second bias -/
  d3 : FVec Ideal ⟨1, ![8]⟩ .f32
  /-- the fifth head's first weight, one group -/
  u4 : FVec Ideal ⟨3, ![16, 32, 3]⟩ .f32
  /-- the fifth head's first bias -/
  c4 : FVec Ideal ⟨1, ![16]⟩ .f32
  /-- the fifth head's second weight -/
  v4 : FVec Ideal ⟨3, ![14, 16, 1]⟩ .f32
  /-- the fifth head's second bias -/
  d4 : FVec Ideal ⟨1, ![14]⟩ .f32

/-- The weight of a convolution in groups of eight input channels, `n` output channels each, as one over all the
    channels. -/
def grouped (n : ℕ) (w : ℕ → ℕ → ℕ → EReal) : ℕ → ℕ → ℕ → EReal := fun o i j =>
  if o / n = i / 8 then w o (i % 8) j else 0

/-- A family over head `s`'s channels, the heads being sixteen wide. -/
def byHead {α : Sort*} (f0 f1 f2 f3 f4 : ℕ → α) (q : ℕ) : α :=
  if q < 16 then f0 q else if q < 32 then f1 (q - 16) else if q < 48 then f2 (q - 32)
    else if q < 64 then f3 (q - 48) else f4 (q - 64)

/-- A family over the output channels, the heads being 12, 14, 12, 8 and 14 wide. -/
def byOut {α : Sort*} (f0 f1 f2 f3 f4 : ℕ → α) (q : ℕ) : α :=
  if q < 12 then f0 q else if q < 26 then f1 (q - 12) else if q < 38 then f2 (q - 26)
    else if q < 46 then f3 (q - 38) else f4 (q - 46)

/-- Head `s`'s second weight, a row over all the heads' channels that is zero off the head's own sixteen. -/
def own {a : ℕ} (s : ℕ) (w : FVec Ideal ⟨3, ![a, 16, 1]⟩ .f32) : ℕ → ℕ → EReal := fun q k =>
  if s = k / 16 then at3 w q (k % 16) 0 else 0

/-- The network of the arguments. -/
def Args.net (A : Args) : Net where
  x := at3 A.x
  w1 := at3 A.w1
  b1 := at1 A.b1
  w2 := grouped 8 (at3 A.w2)
  b2 := at1 A.b2
  w3 := at3 A.w3
  b3 := at1 A.b3
  wh := byHead (grouped 4 (at3 A.u0)) (grouped 4 (at3 A.u1)) (grouped 4 (at3 A.u2)) (grouped 4 (at3 A.u3)) (at3 A.u4)
  bh := byHead (at1 A.c0) (at1 A.c1) (at1 A.c2) (at1 A.c3) (at1 A.c4)
  wo := byOut (own 0 A.v0) (own 1 A.v1) (own 2 A.v2) (own 3 A.v3) (own 4 A.v4)
  bo := byOut (at1 A.d0) (at1 A.d1) (at1 A.d2) (at1 A.d3) (at1 A.d4)

/-- An entry of the identity matrix, as both programs compute it: the comparison of the row's number with the
    column's, as a float. -/
theorem eye_apply {a b : ℕ} (ha : a < 1000) (hb : b < 1000) :
    (FloatOps.uitofp (F := Ideal) .f32
      (IntOp.cmpi .eq (IntOp.addi (BitVec.ofNat 32 a) 0#32) (BitVec.ofNat 32 b)) : EReal)
      = if a = b then 1 else 0 := by
  have h : (BitVec.ofNat 32 a = BitVec.ofNat 32 b) ↔ a = b := by
    constructor
    · intro h
      have := congrArg BitVec.toNat h
      simp only [BitVec.toNat_ofNat] at this
      omega
    · rintro rfl; rfl
  by_cases hab : a = b
  · subst hab
    simp [IntOp.cmpi, IntOp.addi, FloatOps.uitofp]
  · have h' : ¬ BitVec.ofNat 32 a = BitVec.ofNat 32 b := fun e => hab (h.mp e)
    simp [IntOp.cmpi, IntOp.addi, FloatOps.uitofp, h', hab]

end Cert.Spec
-- ==== Proof.KernelIdealWeights.lean ====
module

public import proofs.«01_k».proof.Proof.KernelIdealRun
public import proofs.«01_k».proof.Proof.Args
public import Idealize.ShloMosaic.Lib.StableHlo.ReadAt

@[expose] public section

set_option maxRecDepth 16384

noncomputable section

namespace Cert.KernelIdeal.Net

open Cert.KernelIdeal Cert.KernelIdeal.Gen Cert.Spec
open Idealize.ShloMosaic Idealize.ShloMosaic.TcCoe Idealize.ShloMosaic.Tactic

variable (m : (ℓ : Loc nD τ sig) → Buf (Elt Ideal) ℓ) (c : Dev nD)

/-- The arguments a memory holds. -/
def args : Args where
  x := m (c, Proc.tc.devRef main_arg0)
  w1 := m (c, Proc.tc.devRef main_arg1)
  b1 := m (c, Proc.tc.devRef main_arg2)
  w2 := m (c, Proc.tc.devRef main_arg3)
  b2 := m (c, Proc.tc.devRef main_arg4)
  w3 := m (c, Proc.tc.devRef main_arg5)
  b3 := m (c, Proc.tc.devRef main_arg6)
  u0 := m (c, Proc.tc.devRef main_arg7)
  c0 := m (c, Proc.tc.devRef main_arg8)
  v0 := m (c, Proc.tc.devRef main_arg9)
  d0 := m (c, Proc.tc.devRef main_arg10)
  u1 := m (c, Proc.tc.devRef main_arg11)
  c1 := m (c, Proc.tc.devRef main_arg12)
  v1 := m (c, Proc.tc.devRef main_arg13)
  d1 := m (c, Proc.tc.devRef main_arg14)
  u2 := m (c, Proc.tc.devRef main_arg15)
  c2 := m (c, Proc.tc.devRef main_arg16)
  v2 := m (c, Proc.tc.devRef main_arg17)
  d2 := m (c, Proc.tc.devRef main_arg18)
  u3 := m (c, Proc.tc.devRef main_arg19)
  c3 := m (c, Proc.tc.devRef main_arg20)
  v3 := m (c, Proc.tc.devRef main_arg21)
  d3 := m (c, Proc.tc.devRef main_arg22)
  u4 := m (c, Proc.tc.devRef main_arg23)
  c4 := m (c, Proc.tc.devRef main_arg24)
  v4 := m (c, Proc.tc.devRef main_arg25)
  d4 := m (c, Proc.tc.devRef main_arg26)

/-- An update of a 60 × 80 array at a corner where it fits, at an index. -/
theorem place {α : Type} {p q : ℕ} (x : S60x80.Idx → α) (u : (⟨2, ![p, q]⟩ : Shape).Idx → α) (st : Fin 2 → Int)
    (h : S60x80.Slices (fun _ => 0) ⟨2, ![p, q]⟩) (a b : ℕ) (h0 : st 0 = a) (h1 : st 1 = b) (ha : a + p ≤ 60)
    (hb : b + q ≤ 80) (r : Fin 60) (k : Fin 80) :
    Host.dynamicUpdateSlice x u st h (ix2 r k)
      = if hin : (a ≤ r.val ∧ r.val < a + p) ∧ (b ≤ k.val ∧ k.val < b + q) then
          u (ix2 ⟨r.val - a, by omega⟩ ⟨k.val - b, by omega⟩) else x (ix2 r k) := by
  have c0 : Host.clampedStart S60x80 ⟨2, ![p, q]⟩ h.1 st 0 = a := Host.clampedStart_of_le _ _ _ _ h0 ha
  have c1 : Host.clampedStart S60x80 ⟨2, ![p, q]⟩ h.1 st 1 = b := Host.clampedStart_of_le _ _ _ _ h1 hb
  have e : (∀ i : Fin S60x80.rank, Host.clampedStart S60x80 ⟨2, ![p, q]⟩ h.1 st i ≤ ((ix2 r k : S60x80.Idx) i).val
          ∧ ((ix2 r k : S60x80.Idx) i).val < Host.clampedStart S60x80 ⟨2, ![p, q]⟩ h.1 st i + (⟨2, ![p, q]⟩ : Shape).size (i.cast h.1.symm))
        ↔ (a ≤ r.val ∧ r.val < a + p) ∧ (b ≤ k.val ∧ k.val < b + q) := by
    constructor
    · intro H
      have H0 := H 0
      have H1 := H 1
      rw [c0] at H0
      rw [c1] at H1
      exact ⟨H0, H1⟩
    · rintro ⟨H0, H1⟩ i
      match i with
      | ⟨0, _⟩ => rw [show (⟨0, _⟩ : Fin S60x80.rank) = 0 from rfl, c0]; exact H0
      | ⟨1, _⟩ => rw [show (⟨1, _⟩ : Fin S60x80.rank) = 1 from rfl, c1]; exact H1
  rw [Host.dynamicUpdateSlice_apply]
  by_cases hin : (a ≤ r.val ∧ r.val < a + p) ∧ (b ≤ k.val ∧ k.val < b + q)
  · rw [dif_pos hin, dif_pos (e.mpr hin)]
    congr 1
    rw [Shape.Idx.norm_def]
    funext i
    match i with
    | ⟨0, _⟩ => exact Fin.ext (congrArg (r.val - ·) c0)
    | ⟨1, _⟩ => exact Fin.ext (congrArg (k.val - ·) c1)
  · rw [dif_neg hin, dif_neg (fun H => hin (e.mp H))]

/-- The repeated first bias. -/
theorem V_b1 (r : Fin 128) :
    (V m c main_call0_v83 : FVec Ideal S128x1 .f32) (ix2 r 0) = (args m c).net.b1 (r.val % 32) := by
  unfold V
  after_reads_at
  exact at1_of (args m c).b1 _ rfl

/-- The repeated second bias. -/
theorem V_b2 (r : Fin 128) :
    (V m c main_call0_v87 : FVec Ideal S128x1 .f32) (ix2 r 0) = (args m c).net.b2 (r.val % 32) := by
  unfold V
  after_reads_at
  exact at1_of (args m c).b2 _ rfl

/-- The repeated third bias. -/
theorem V_b3 (r : Fin 128) :
    (V m c main_call0_v91 : FVec Ideal S128x1 .f32) (ix2 r 0) = (args m c).net.b3 (r.val % 32) := by
  unfold V
  after_reads_at
  exact at1_of (args m c).b3 _ rfl

/-- An entry of the identity matrix as a factor. -/
theorem mul_eye (x : EReal) {a b : ℕ} (ha : a < 1000) (hb : b < 1000) :
    x * (FloatOps.uitofp (F := Ideal) .f32
      (IntOp.cmpi .eq (IntOp.addi (BitVec.ofNat 32 a) 0#32) (BitVec.ofNat 32 b)) : EReal)
      = if a = b then x else 0 := by
  rw [eye_apply ha hb]
  split
  · exact mul_one x
  · exact mul_zero x

set_option maxHeartbeats 1000000 in
/-- The heads' second biases, one head after the other. -/
theorem V_bo (q : Fin 60) :
    (V m c main_call0_v192 : FVec Ideal S60x1 .f32) (ix2 q 0) = (args m c).net.bo q.val := by
  have hq := q.isLt
  unfold V
  after_reads_at
  show _ = byOut _ _ _ _ _ q.val
  unfold byOut
  by_cases h1 : q.val < 12
  · rw [dif_pos h1, if_pos h1]
    change cast rfl (StableHlo.upto hostOps0 (fun b => m (c, b)) 214 (Proc.tc.devRef main_arg10)) (ix1 ⟨_, _⟩) = _
    rw [cast_eq]
    after_reads_simp
    exact at1_of (args m c).d0 _ rfl
  rw [dif_neg h1, if_neg h1]
  by_cases h2 : q.val < 26
  · rw [dif_pos (by omega), if_pos h2]
    change cast rfl (StableHlo.upto hostOps0 (fun b => m (c, b)) 214 (Proc.tc.devRef main_arg14)) (ix1 ⟨_, _⟩) = _
    rw [cast_eq]
    after_reads_simp
    exact at1_of (args m c).d1 _ rfl
  rw [dif_neg (by omega), if_neg h2]
  by_cases h3 : q.val < 38
  · rw [dif_pos (by omega), if_pos h3]
    change cast rfl (StableHlo.upto hostOps0 (fun b => m (c, b)) 214 (Proc.tc.devRef main_arg18)) (ix1 ⟨_, _⟩) = _
    rw [cast_eq]
    after_reads_simp
    exact at1_of (args m c).d2 _ (by omega)
  rw [dif_neg (by omega), if_neg h3]
  by_cases h4 : q.val < 46
  · rw [dif_pos (by omega), if_pos h4]
    change cast rfl (StableHlo.upto hostOps0 (fun b => m (c, b)) 214 (Proc.tc.devRef main_arg22)) (ix1 ⟨_, _⟩) = _
    rw [cast_eq]
    after_reads_simp
    exact at1_of (args m c).d3 _ (by omega)
  rw [dif_neg (by omega), if_neg h4]
  change cast rfl (StableHlo.upto hostOps0 (fun b => m (c, b)) 214 (Proc.tc.devRef main_arg26)) (ix1 ⟨_, _⟩) = _
  rw [cast_eq]
  after_reads_simp
  exact at1_of (args m c).d4 _ (by omega)

set_option maxHeartbeats 1000000 in
/-- Five arrays of sixteen entries one after the other. -/
theorem cat1 (Y0 Y1 Y2 Y3 Y4 : FVec Ideal S16 .f32) (f0 f1 f2 f3 f4 : ℕ → EReal)
    (h0 : ∀ q : Fin 16, (Y0 (ix1 q) : EReal) = f0 q.val) (h1 : ∀ q : Fin 16, (Y1 (ix1 q) : EReal) = f1 q.val)
    (h2 : ∀ q : Fin 16, (Y2 (ix1 q) : EReal) = f2 q.val) (h3 : ∀ q : Fin 16, (Y3 (ix1 q) : EReal) = f3 q.val)
    (h4 : ∀ q : Fin 16, (Y4 (ix1 q) : EReal) = f4 q.val) (q : Fin 80) :
    (concatenate S80 0 [⟨S16, Y0⟩, ⟨S16, Y1⟩, ⟨S16, Y2⟩, ⟨S16, Y3⟩, ⟨S16, Y4⟩] concatenates_S16_S16_S16_S16_S16_S80_d0
      (ix1 q) : EReal) = byHead f0 f1 f2 f3 f4 q.val := by
  have hq := q.isLt
  pointwise
  simp only [h0, h1, h2, h3, h4]
  unfold byHead
  split_ifs <;> first | rfl | omega | (congr 1; omega)

/-- Five arrays of sixteen rows one after the other. -/
theorem cat3 (Y0 Y1 Y2 Y3 Y4 : FVec Ideal S3x16x32 .f32) (f0 f1 f2 f3 f4 : ℕ → ℕ → ℕ → EReal)
    (h0 : ∀ (j : Fin 3) (q : Fin 16) (i : Fin 32), (Y0 (ix3 j q i) : EReal) = f0 q.val i.val j.val)
    (h1 : ∀ (j : Fin 3) (q : Fin 16) (i : Fin 32), (Y1 (ix3 j q i) : EReal) = f1 q.val i.val j.val)
    (h2 : ∀ (j : Fin 3) (q : Fin 16) (i : Fin 32), (Y2 (ix3 j q i) : EReal) = f2 q.val i.val j.val)
    (h3 : ∀ (j : Fin 3) (q : Fin 16) (i : Fin 32), (Y3 (ix3 j q i) : EReal) = f3 q.val i.val j.val)
    (h4 : ∀ (j : Fin 3) (q : Fin 16) (i : Fin 32), (Y4 (ix3 j q i) : EReal) = f4 q.val i.val j.val)
    (j : Fin 3) (q : Fin 80) (i : Fin 32) :
    (concatenate S3x80x32 1 [⟨S3x16x32, Y0⟩, ⟨S3x16x32, Y1⟩, ⟨S3x16x32, Y2⟩, ⟨S3x16x32, Y3⟩, ⟨S3x16x32, Y4⟩]
      concatenates_S3x16x32_S3x16x32_S3x16x32_S3x16x32_S3x16x32_S3x80x32_d1 (ix3 j q i) : EReal)
      = byHead f0 f1 f2 f3 f4 q.val i.val j.val := by
  have hq := q.isLt
  pointwise
  simp only [h0, h1, h2, h3, h4]
  unfold byHead
  split_ifs <;> first | rfl | omega | (congr 1; omega)

/-- The heads' first biases, one head after the other, repeated. -/
theorem V_bh (r : Fin 320) :
    (V m c main_call0_v179 : FVec Ideal S320x1 .f32) (ix2 r 0) = (args m c).net.bh (r.val % 80) := by
  have hr := r.isLt
  unfold V
  after_reads_simp
  simp -implicitDefEqProofs only [StableHlo.TRef.toBuf, StableHlo.TRef.ofBuf, cast_cast, cast_eq]
  generalize hX : concatenate S80 0 _ _ = X
  clean_types
  pointwise
  rw [← hX]
  refine cat1 _ _ _ _ _ (at1 (args m c).c0) (at1 (args m c).c1) (at1 (args m c).c2) (at1 (args m c).c3) (at1 (args m c).c4)
    ?_ ?_ ?_ ?_ ?_ ⟨r.val % 80, by omega⟩
  · intro q
    change cast rfl (StableHlo.upto hostOps0 (fun b => m (c, b)) 187 (Proc.tc.devRef main_arg8)) (ix1 q) = _
    rw [cast_eq]
    after_reads_simp
    exact at1_of (args m c).c0 q.isLt rfl
  · intro q
    change cast rfl (StableHlo.upto hostOps0 (fun b => m (c, b)) 187 (Proc.tc.devRef main_arg12)) (ix1 q) = _
    rw [cast_eq]
    after_reads_simp
    exact at1_of (args m c).c1 q.isLt rfl
  · intro q
    change cast rfl (StableHlo.upto hostOps0 (fun b => m (c, b)) 187 (Proc.tc.devRef main_arg16)) (ix1 q) = _
    rw [cast_eq]
    after_reads_simp
    exact at1_of (args m c).c2 q.isLt rfl
  · intro q
    change cast rfl (StableHlo.upto hostOps0 (fun b => m (c, b)) 187 (Proc.tc.devRef main_arg20)) (ix1 q) = _
    rw [cast_eq]
    after_reads_simp
    exact at1_of (args m c).c3 q.isLt rfl
  · intro q
    change cast rfl (StableHlo.upto hostOps0 (fun b => m (c, b)) 187 (Proc.tc.devRef main_arg24)) (ix1 q) = _
    rw [cast_eq]
    after_reads_simp
    exact at1_of (args m c).c4 q.isLt rfl

/-- The first layer's weight for four batches side by side. -/
theorem V_w1 (r : Fin 128) (k : Fin 768) :
    (V m c main_call0_v193 : FVec Ideal S128x768 .bf16) (ix2 r k)
      = if r.val / 32 = k.val % 256 / 64 then (args m c).net.w1 (r.val % 32) (k.val % 64) (k.val / 256) else 0 := by
  have hr := r.isLt
  have hk := k.isLt
  unfold V
  after_reads_at
  refine (mul_eye _ (a := r.val / 32) (b := k.val / 64 % 4) (by omega) (by omega)).trans ?_
  refine if_congr (by omega) ?_ rfl
  refine (mul_eye _ (a := 0) (b := 0) (by omega) (by omega)).trans ?_
  rw [if_pos rfl]
  exact at3_of (args m c).w1 _ _ _ rfl rfl rfl

/-- The second layer's weight for four batches side by side. -/
theorem V_w2 (r : Fin 128) (k : Fin 384) :
    (V m c main_call0_v194 : FVec Ideal S128x384 .bf16) (ix2 r k)
      = if r.val / 32 = k.val % 128 / 32 then (args m c).net.w2 (r.val % 32) (k.val % 32) (k.val / 128) else 0 := by
  have hr := r.isLt
  have hk := k.isLt
  unfold V
  after_reads_at
  refine (mul_eye _ (a := r.val / 32) (b := k.val / 32 % 4) (by omega) (by omega)).trans ?_
  refine if_congr (by omega) ?_ rfl
  refine (mul_eye _ (a := r.val % 32 / 8) (b := k.val % 32 / 8) (by omega) (by omega)).trans ?_
  refine if_congr Iff.rfl ?_ rfl
  exact at3_of (args m c).w2 _ _ _ (by omega) rfl rfl

/-- The third layer's weight for four batches side by side. -/
theorem V_w3 (r : Fin 128) (k : Fin 384) :
    (V m c main_call0_v195 : FVec Ideal S128x384 .bf16) (ix2 r k)
      = if r.val / 32 = k.val % 128 / 32 then (args m c).net.w3 (r.val % 32) (k.val % 32) (k.val / 128) else 0 := by
  have hr := r.isLt
  have hk := k.isLt
  unfold V
  after_reads_at
  refine (mul_eye _ (a := r.val / 32) (b := k.val / 32 % 4) (by omega) (by omega)).trans ?_
  refine if_congr (by omega) ?_ rfl
  refine (mul_eye _ (a := 0) (b := 0) (by omega) (by omega)).trans ?_
  rw [if_pos rfl]
  exact at3_of (args m c).w3 _ _ _ rfl rfl rfl

/-- The first head's taps, before the heads are put together. -/
theorem V_u0 (j : Fin 3) (o : Fin 16) (i : Fin 32) :
    (StableHlo.upto hostOps0 (fun b => m (c, b)) 172 (Proc.tc.devRef main_call0_v105) : FVec Ideal S3x16x32 .f32) (ix3 j o i)
      = grouped 4 (at3 (args m c).u0) o.val i.val j.val := by
  have ho := o.isLt
  have hi := i.isLt
  after_reads_at
  refine (mul_eye _ (a := o.val / 4) (b := i.val / 8) (by omega) (by omega)).trans ?_
  refine if_congr Iff.rfl ?_ rfl
  exact at3_of (args m c).u0 _ _ _ (by omega) rfl rfl

/-- The second head's taps, before the heads are put together. -/
theorem V_u1 (j : Fin 3) (o : Fin 16) (i : Fin 32) :
    (StableHlo.upto hostOps0 (fun b => m (c, b)) 172 (Proc.tc.devRef main_call0_v119) : FVec Ideal S3x16x32 .f32) (ix3 j o i)
      = grouped 4 (at3 (args m c).u1) o.val i.val j.val := by
  have ho := o.isLt
  have hi := i.isLt
  after_reads_at
  refine (mul_eye _ (a := o.val / 4) (b := i.val / 8) (by omega) (by omega)).trans ?_
  refine if_congr Iff.rfl ?_ rfl
  exact at3_of (args m c).u1 _ _ _ (by omega) rfl rfl

/-- The third head's taps, before the heads are put together. -/
theorem V_u2 (j : Fin 3) (o : Fin 16) (i : Fin 32) :
    (StableHlo.upto hostOps0 (fun b => m (c, b)) 172 (Proc.tc.devRef main_call0_v133) : FVec Ideal S3x16x32 .f32) (ix3 j o i)
      = grouped 4 (at3 (args m c).u2) o.val i.val j.val := by
  have ho := o.isLt
  have hi := i.isLt
  after_reads_at
  refine (mul_eye _ (a := o.val / 4) (b := i.val / 8) (by omega) (by omega)).trans ?_
  refine if_congr Iff.rfl ?_ rfl
  exact at3_of (args m c).u2 _ _ _ (by omega) rfl rfl

/-- The fourth head's taps, before the heads are put together. -/
theorem V_u3 (j : Fin 3) (o : Fin 16) (i : Fin 32) :
    (StableHlo.upto hostOps0 (fun b => m (c, b)) 172 (Proc.tc.devRef main_call0_v147) : FVec Ideal S3x16x32 .f32) (ix3 j o i)
      = grouped 4 (at3 (args m c).u3) o.val i.val j.val := by
  have ho := o.isLt
  have hi := i.isLt
  after_reads_at
  refine (mul_eye _ (a := o.val / 4) (b := i.val / 8) (by omega) (by omega)).trans ?_
  refine if_congr Iff.rfl ?_ rfl
  exact at3_of (args m c).u3 _ _ _ (by omega) rfl rfl

/-- The fifth head's taps, before the heads are put together. -/
theorem V_u4 (j : Fin 3) (o : Fin 16) (i : Fin 32) :
    (StableHlo.upto hostOps0 (fun b => m (c, b)) 172 (Proc.tc.devRef main_call0_v160) : FVec Ideal S3x16x32 .f32) (ix3 j o i)
      = at3 (args m c).u4 o.val i.val j.val := by
  after_reads_at
  refine (mul_eye _ (a := 0) (b := 0) (by omega) (by omega)).trans ?_
  rw [if_pos rfl]
  exact at3_of (args m c).u4 _ _ _ rfl rfl rfl

/-- The heads' first weights, one head after the other, for four batches side by side. -/
theorem V_wh (r : Fin 320) (k : Fin 384) :
    (V m c main_call0_v196 : FVec Ideal S320x384 .bf16) (ix2 r k)
      = if r.val / 80 = k.val % 128 / 32 then (args m c).net.wh (r.val % 80) (k.val % 32) (k.val / 128) else 0 := by
  have hr := r.isLt
  have hk := k.isLt
  unfold V
  after_reads_simp
  simp -implicitDefEqProofs only [StableHlo.TRef.toBuf, StableHlo.TRef.ofBuf, cast_cast, cast_eq]
  generalize hX : concatenate S3x80x32 1 _ _ = X
  clean_types
  pointwise
  refine (mul_eye _ (a := r.val / 80) (b := k.val / 32 % 4) (by omega) (by omega)).trans ?_
  refine if_congr (by omega) ?_ rfl
  rw [← hX]
  refine cat3 _ _ _ _ _ (grouped 4 (at3 (args m c).u0)) (grouped 4 (at3 (args m c).u1)) (grouped 4 (at3 (args m c).u2))
    (grouped 4 (at3 (args m c).u3)) (at3 (args m c).u4) ?_ ?_ ?_ ?_ ?_ ⟨k.val / 128, by omega⟩ ⟨r.val % 80, by omega⟩
    ⟨k.val % 32, by omega⟩
  · intro j q i
    change cast rfl (StableHlo.upto hostOps0 (fun b => m (c, b)) 172 (Proc.tc.devRef main_call0_v105)) (ix3 j q i) = _
    rw [cast_eq]
    exact V_u0 m c j q i
  · intro j q i
    change cast rfl (StableHlo.upto hostOps0 (fun b => m (c, b)) 172 (Proc.tc.devRef main_call0_v119)) (ix3 j q i) = _
    rw [cast_eq]
    exact V_u1 m c j q i
  · intro j q i
    change cast rfl (StableHlo.upto hostOps0 (fun b => m (c, b)) 172 (Proc.tc.devRef main_call0_v133)) (ix3 j q i) = _
    rw [cast_eq]
    exact V_u2 m c j q i
  · intro j q i
    change cast rfl (StableHlo.upto hostOps0 (fun b => m (c, b)) 172 (Proc.tc.devRef main_call0_v147)) (ix3 j q i) = _
    rw [cast_eq]
    exact V_u3 m c j q i
  · intro j q i
    change cast rfl (StableHlo.upto hostOps0 (fun b => m (c, b)) 172 (Proc.tc.devRef main_call0_v160)) (ix3 j q i) = _
    rw [cast_eq]
    exact V_u4 m c j q i

/-- The heads' second weights in one array, each head's in its own rows and columns. -/
theorem V_wo (q : Fin 60) (k : Fin 80) :
    (V m c main_call0_v197 : FVec Ideal S60x80 .bf16) (ix2 q k) = (args m c).net.wo q.val k.val := by
  have hq := q.isLt
  have hk := k.isLt
  unfold V
  after_reads_simp [StableHlo.binaryIndexed_result_read, StableHlo.indexContents_tref_cons, StableHlo.indexContents_tref_empty]
  simp -implicitDefEqProofs only [StableHlo.TRef.toBuf, StableHlo.TRef.ofBuf, cast_cast, cast_eq]
  show Host.dynamicUpdateSlice (α := EReal) (s := S60x80) (u := S14x16) _ _ _ updateFits_S60x80_S14x16 (ix2 q k) = _
  rw [place (p := 14) (q := 16) _ _ _ updateFits_S60x80_S14x16 46 64 rfl rfl (by omega) (by omega) q k,
    place (p := 8) (q := 16) _ _ _ updateFits_S60x80_S8x16 38 48 rfl rfl (by omega) (by omega) q k,
    place (p := 12) (q := 16) _ _ _ updateFits_S60x80_S12x16 26 32 rfl rfl (by omega) (by omega) q k,
    place (p := 14) (q := 16) _ _ _ updateFits_S60x80_S14x16 12 16 rfl rfl (by omega) (by omega) q k,
    place (p := 12) (q := 16) _ _ _ updateFits_S60x80_S12x16 0 0 rfl rfl (by omega) (by omega) q k]
  clean_types
  pointwise
  show _ = byOut (α := ℕ → EReal) _ _ _ _ _ q.val k.val
  unfold byOut own
  by_cases h1 : q.val < 12
  · rw [dif_neg (by omega), dif_neg (by omega), dif_neg (by omega), dif_neg (by omega), if_pos h1]
    by_cases hk' : 0 = k.val / 16
    · rw [dif_pos (by omega), if_pos hk']
      exact at3_of (args m c).v0 _ _ _ rfl (by omega) rfl
    · rw [dif_neg (by omega), if_neg hk']
  rw [if_neg h1]
  by_cases h2 : q.val < 26
  · rw [dif_neg (by omega), dif_neg (by omega), dif_neg (by omega), if_pos h2]
    by_cases hk' : 1 = k.val / 16
    · rw [dif_pos (by omega), if_pos hk']
      exact at3_of (args m c).v1 _ _ _ rfl (by omega) rfl
    · rw [dif_neg (by omega), dif_neg (by omega), if_neg hk']
  rw [if_neg h2]
  by_cases h3 : q.val < 38
  · rw [dif_neg (by omega), dif_neg (by omega), if_pos h3]
    by_cases hk' : 2 = k.val / 16
    · rw [dif_pos (by omega), if_pos hk']
      exact at3_of (args m c).v2 _ _ _ rfl (by omega) rfl
    · rw [dif_neg (by omega), dif_neg (by omega), dif_neg (by omega), if_neg hk']
  rw [if_neg h3]
  by_cases h4 : q.val < 46
  · rw [dif_neg (by omega), if_pos h4]
    by_cases hk' : 3 = k.val / 16
    · rw [dif_pos (by omega), if_pos hk']
      exact at3_of (args m c).v3 _ _ _ rfl (by omega) rfl
    · rw [dif_neg (by omega), dif_neg (by omega), dif_neg (by omega), dif_neg (by omega), if_neg hk']
  rw [if_neg h4]
  by_cases hk' : 4 = k.val / 16
  · rw [dif_pos (by omega), if_pos hk']
    exact at3_of (args m c).v4 _ _ _ rfl (by omega) rfl
  · rw [dif_neg (by omega), dif_neg (by omega), dif_neg (by omega), dif_neg (by omega), dif_neg (by omega), if_neg hk']

end Cert.KernelIdeal.Net
-- ==== Proof.KernelIdealLayers.lean ====
module

public import proofs.«01_k».proof.Proof.KernelIdealMask
public import proofs.«01_k».proof.Proof.Spec

@[expose] public section

set_option maxRecDepth 16384

noncomputable section

/-! # The kernel's body as the network

At one grid point, column `p` of a signal stands for the moved time `4096 i + p`. A signal agrees with the
network's on a range of columns, one column narrower on either side after each layer: the outermost columns are
read beside themselves. -/

namespace Cert.KernelIdeal.Net

open Cert.KernelIdeal Cert.KernelIdeal.Gen Cert.Spec
open Idealize.ShloMosaic Idealize.ShloMosaic.TcCoe Idealize.ShloMosaic.Tactic

/-- The leaky rectifier followed by the mask. -/
def act (v : IVec S1x4352 1) (y : FVec Ideal S128x4352 .bf16) : FVec Ideal S128x4352 .bf16 :=
  select (broadcastTo S128x4352 (shapeCast S1x4352 v shapeCasts_S1x4352_S1x4352) broadcasts_S1x4352_S128x4352)
    (select (cmpf .ogt y (broadcast S128x4352 (Scalar.ofBits .bf16 0x0000#16))) y
      (mulf (broadcast S128x4352 (Named.named κ "slope" 0x3E4D#16)) y))
    (broadcast S128x4352 (Scalar.ofBits .bf16 0x0000#16))

/-- A signal of 128 rows beside its two neighbours in time, one below the other. -/
def three (x : FVec Ideal S128x4352 .bf16) : FVec Ideal S384x4352 .bf16 :=
  concatenate S384x4352 0
    [⟨S128x4352, concatenate S128x4352 1
        [⟨S128x1, extractStridedSlice S128x1 ![0, 0] x slices_S128x4352_o0_0_S128x1⟩,
         ⟨S128x4351, extractStridedSlice S128x4351 ![0, 0] x slices_S128x4352_o0_0_S128x4351⟩]
        concatenates_S128x1_S128x4351_S128x4352_d1⟩,
     ⟨S128x4352, x⟩,
     ⟨S128x4352, concatenate S128x4352 1
        [⟨S128x4351, extractStridedSlice S128x4351 ![0, 1] x slices_S128x4352_o0_1_S128x4351⟩,
         ⟨S128x1, extractStridedSlice S128x1 ![0, 4351] x slices_S128x4352_o0_4351_S128x1⟩]
        concatenates_S128x4351_S128x1_S128x4352_d1⟩]
    concatenates_S128x4352_S128x4352_S128x4352_S384x4352_d0

/-- A layer from 128 rows to 128 rows: products and bias. -/
def layer (x : FVec Ideal S128x4352 .bf16) (w : Vec Ideal S128x384 .bf16) (b : Vec Ideal S128x1 .f32) :
    FVec Ideal S128x4352 .bf16 :=
  truncf .bf16
    (addf (matmul dot_S128x384_S384x4352_S128x4352_1_0_0_1_n_n none
        (shapeCast S128x384 w shapeCasts_S128x384_S128x384 : FVec Ideal S128x384 .bf16) (three x) (constant S128x4352 .f32 0x00000000#32))
      (broadcastTo S128x4352 (shapeCast S128x1 b shapeCasts_S128x1_S128x1) broadcasts_S128x1_S128x4352))
    bitsLt_bf16_f32

/-- The heads' layer from 128 rows to 320 rows: products and bias. -/
def heads (x : FVec Ideal S128x4352 .bf16) (w : Vec Ideal S320x384 .bf16) (b : Vec Ideal S320x1 .f32) :
    FVec Ideal S320x4352 .bf16 :=
  truncf .bf16
    (addf (matmul dot_S320x384_S384x4352_S320x4352_1_0_0_1_n_n none
        (shapeCast S320x384 w shapeCasts_S320x384_S320x384 : FVec Ideal S320x384 .bf16) (three x) (constant S320x4352 .f32 0x00000000#32))
      (broadcastTo S320x4352 (shapeCast S320x1 b shapeCasts_S320x1_S320x1) broadcasts_S320x1_S320x4352))
    bitsLt_bf16_f32

/-- The third layer is two more layers, each on the rectified and masked signal before it. -/
theorem hidden_eq (i : grid0.Coords) (v0 : Vec Ideal S256x128 .f32) (v2 : Vec Ideal S256x4096 .f32) (v4 : Vec Ideal S256x128 .f32)
    (w1 : Vec Ideal S128x768 .bf16) (b1 : Vec Ideal S128x1 .f32) (w2 : Vec Ideal S128x384 .bf16) (b2 : Vec Ideal S128x1 .f32)
    (w3 : Vec Ideal S128x384 .bf16) (b3 : Vec Ideal S128x1 .f32) :
    hidden i v0 v2 v4 w1 b1 w2 b2 w3 b3
      = layer (act (k0_pay4 i) (layer (act (k0_pay4 i) (layer1 (xin i v0 v2 v4) w1 b1)) w2 b2)) w3 b3 := rfl

/-- The named constant is the network's slope. -/
theorem named_slope (b : BitVec 16) : Named.named (F := Ideal) (φ := .bf16) κ "slope" b = slope := rfl

/-- The rectified and masked signal at an index. -/
theorem act_apply (i : grid0.Coords) (y : FVec Ideal S128x4352 .bf16) (r : Fin 128) (p : Fin 4352) :
    act (k0_pay4 i) y (ix2 r p) = if Inside (4096 * (i 0).val + p.val) then lrelu (y (ix2 r p)) else 0 := by
  pointwise [act, mask_apply]
  simp only [named_slope]
  by_cases hc : 128 ≤ 4096 * (i 0).val + p.val ∧ 4096 * (i 0).val + p.val < 24128
  · rw [if_pos hc, if_pos (show Inside (4096 * (i 0).val + p.val) from hc)]; rfl
  · rw [if_neg hc, if_neg (show ¬ Inside (4096 * (i 0).val + p.val) from hc)]; rfl

/-- The first layer at a column whose two neighbours are columns too. -/
theorem layer1_apply (W : ℕ → ℕ → ℕ → EReal) (bias : ℕ → EReal) (h : Sig) (n : ℕ)
    (x : FVec Ideal S256x4352 .bf16) (w : Vec Ideal S128x768 .bf16) (b : Vec Ideal S128x1 .f32)
    (hw : ∀ (r : Fin 128) (k : Fin 768), w (ix2 r k) = if r.val / 32 = k.val % 256 / 64 then W (r.val % 32) (k.val % 64) (k.val / 256) else 0)
    (hb : ∀ r : Fin 128, b (ix2 r 0) = bias (r.val % 32))
    (hx : ∀ (r : Fin 256) (p : Fin 4352), x (ix2 r p) = h (r.val / 64) (r.val % 64) (n + p.val))
    (r : Fin 128) (p : Fin 4352) (hp : 1 ≤ p.val ∧ p.val < 4351) :
    layer1 x w b (ix2 r p) = conv 64 W bias h (r.val / 32) (r.val % 32) (n + p.val) := by
  obtain ⟨hp0, hp1⟩ := hp
  pointwise [layer1]
  refine congrArg₂ (· + ·) (sum_taps 64 256 768 (r.val / 32) (n + p.val) rfl rfl (by omega) (W (r.val % 32)) h
    (fun k => w (ix2 r k)) _ (hw r) ?_ ?_ ?_) (hb r)
  · intro k
    simp only [dif_pos k.isLt, dif_neg (show ¬ p.val < 1 by omega), hx]
    exact h.at_eq rfl rfl (by omega)
  · intro k
    simp only [show ¬ (256 + k.val < 256) by omega, show 256 + k.val - 256 < 256 by omega, dif_neg, dif_pos, not_false_eq_true, hx]
    exact h.at_eq (by omega) (by omega) rfl
  · intro k
    simp only [show ¬ (256 + 256 + k.val < 256) by omega, show ¬ (256 + 256 + k.val - 256 < 256) by omega, dif_pos hp1, dif_neg, not_false_eq_true, hx]
    exact h.at_eq (by omega) (by omega) (by omega)

/-- What a signal beside its neighbours holds, at a column that has them. -/
theorem three_apply (h : Sig) (n c : ℕ) (x : FVec Ideal S128x4352 .bf16)
    (hx : ∀ (r : Fin 128) (p : Fin 4352), c ≤ p.val → p.val < 4352 - c → x (ix2 r p) = h (r.val / 32) (r.val % 32) (n + p.val))
    (p : Fin 4352) (hp : c + 1 ≤ p.val ∧ p.val < 4352 - (c + 1)) (k : Fin 128) :
    three x (ix2 ⟨k.val, by omega⟩ p) = h (k.val / 32) (k.val % 32) (n + p.val - 1)
      ∧ three x (ix2 ⟨128 + k.val, by omega⟩ p) = h (k.val / 32) (k.val % 32) (n + p.val)
      ∧ three x (ix2 ⟨128 + 128 + k.val, by omega⟩ p) = h (k.val / 32) (k.val % 32) (n + p.val + 1) := by
  obtain ⟨hp0, hp1⟩ := hp
  have hp2 : ¬ p.val < 1 := by omega
  have hp3 : p.val < 4351 := by omega
  refine ⟨?_, ?_, ?_⟩
  · pointwise [three]
    simp only [dif_neg hp2]
    rw [hx k ⟨p.val - 1, by omega⟩ (by simp only; omega) (by simp only; omega)]
    exact h.at_eq rfl rfl (by simp only; omega)
  · pointwise [three]
    exact hx k p (by omega) (by omega)
  · pointwise [three]
    simp only [show ¬ (256 + k.val < 128) by omega, show ¬ (256 + k.val - 128 < 128) by omega, dif_pos hp3, dif_neg, not_false_eq_true]
    rw [hx _ ⟨1 + p.val, by omega⟩ (by simp only; omega) (by simp only; omega)]
    exact h.at_eq (by simp only; omega) (by simp only; omega) (by simp only; omega)

/-- A layer from 128 rows to 128 rows, at a column whose two neighbours are columns where the signal is known. -/
theorem layer_apply (W : ℕ → ℕ → ℕ → EReal) (bias : ℕ → EReal) (h : Sig) (n c : ℕ)
    (x : FVec Ideal S128x4352 .bf16) (w : Vec Ideal S128x384 .bf16) (b : Vec Ideal S128x1 .f32)
    (hw : ∀ (r : Fin 128) (k : Fin 384), w (ix2 r k) = if r.val / 32 = k.val % 128 / 32 then W (r.val % 32) (k.val % 32) (k.val / 128) else 0)
    (hb : ∀ r : Fin 128, b (ix2 r 0) = bias (r.val % 32))
    (hx : ∀ (r : Fin 128) (p : Fin 4352), c ≤ p.val → p.val < 4352 - c → x (ix2 r p) = h (r.val / 32) (r.val % 32) (n + p.val))
    (r : Fin 128) (p : Fin 4352) (hp : c + 1 ≤ p.val ∧ p.val < 4352 - (c + 1)) :
    layer x w b (ix2 r p) = conv 32 W bias h (r.val / 32) (r.val % 32) (n + p.val) := by
  pointwise [layer]
  exact congrArg₂ (· + ·) (sum_taps 32 128 384 (r.val / 32) (n + p.val) rfl rfl (by omega) (W (r.val % 32)) h
    (fun k => w (ix2 r k)) (fun k => three x (ix2 k p)) (hw r) (fun k => (three_apply h n c x hx p hp k).1)
    (fun k => (three_apply h n c x hx p hp k).2.1) (fun k => (three_apply h n c x hx p hp k).2.2)) (hb r)

/-- The heads' layer, at a column whose two neighbours are columns where the signal is known. -/
theorem heads_apply (W : ℕ → ℕ → ℕ → EReal) (bias : ℕ → EReal) (h : Sig) (n c : ℕ)
    (x : FVec Ideal S128x4352 .bf16) (w : Vec Ideal S320x384 .bf16) (b : Vec Ideal S320x1 .f32)
    (hw : ∀ (r : Fin 320) (k : Fin 384), w (ix2 r k) = if r.val / 80 = k.val % 128 / 32 then W (r.val % 80) (k.val % 32) (k.val / 128) else 0)
    (hb : ∀ r : Fin 320, b (ix2 r 0) = bias (r.val % 80))
    (hx : ∀ (r : Fin 128) (p : Fin 4352), c ≤ p.val → p.val < 4352 - c → x (ix2 r p) = h (r.val / 32) (r.val % 32) (n + p.val))
    (r : Fin 320) (p : Fin 4352) (hp : c + 1 ≤ p.val ∧ p.val < 4352 - (c + 1)) :
    heads x w b (ix2 r p) = conv 32 W bias h (r.val / 80) (r.val % 80) (n + p.val) := by
  pointwise [heads]
  exact congrArg₂ (· + ·) (sum_taps 32 128 384 (r.val / 80) (n + p.val) rfl rfl (by omega) (W (r.val % 80)) h
    (fun k => w (ix2 r k)) (fun k => three x (ix2 k p)) (hw r) (fun k => (three_apply h n c x hx p hp k).1)
    (fun k => (three_apply h n c x hx p hp k).2.1) (fun k => (three_apply h n c x hx p hp k).2.2)) (hb r)

/-! ## The body on one grid point -/

/-- What the windows of one grid point hold, in the network's terms. -/
structure Holds (N : Net) (n : ℕ) (x : FVec Ideal S256x4352 .bf16) (w1 : Vec Ideal S128x768 .bf16) (b1 : Vec Ideal S128x1 .f32)
    (w2 : Vec Ideal S128x384 .bf16) (b2 : Vec Ideal S128x1 .f32) (w3 : Vec Ideal S128x384 .bf16) (b3 : Vec Ideal S128x1 .f32)
    (wh : Vec Ideal S320x384 .bf16) (bh : Vec Ideal S320x1 .f32) (wo : Vec Ideal S60x80 .bf16) (bo : Vec Ideal S60x1 .f32) : Prop where
  hx : ∀ (r : Fin 256) (p : Fin 4352), x (ix2 r p) = N.s0 (r.val / 64) (r.val % 64) (n + p.val)
  hw1 : ∀ (r : Fin 128) (k : Fin 768), w1 (ix2 r k) = if r.val / 32 = k.val % 256 / 64 then N.w1 (r.val % 32) (k.val % 64) (k.val / 256) else 0
  hb1 : ∀ r : Fin 128, b1 (ix2 r 0) = N.b1 (r.val % 32)
  hw2 : ∀ (r : Fin 128) (k : Fin 384), w2 (ix2 r k) = if r.val / 32 = k.val % 128 / 32 then N.w2 (r.val % 32) (k.val % 32) (k.val / 128) else 0
  hb2 : ∀ r : Fin 128, b2 (ix2 r 0) = N.b2 (r.val % 32)
  hw3 : ∀ (r : Fin 128) (k : Fin 384), w3 (ix2 r k) = if r.val / 32 = k.val % 128 / 32 then N.w3 (r.val % 32) (k.val % 32) (k.val / 128) else 0
  hb3 : ∀ r : Fin 128, b3 (ix2 r 0) = N.b3 (r.val % 32)
  hwh : ∀ (r : Fin 320) (k : Fin 384), wh (ix2 r k) = if r.val / 80 = k.val % 128 / 32 then N.wh (r.val % 80) (k.val % 32) (k.val / 128) else 0
  hbh : ∀ r : Fin 320, bh (ix2 r 0) = N.bh (r.val % 80)
  hwo : ∀ (q : Fin 60) (k : Fin 80), wo (ix2 q k) = N.wo q.val k.val
  hbo : ∀ q : Fin 60, bo (ix2 q 0) = N.bo q.val

section
variable {N : Net} {i : grid0.Coords} {v0 : Vec Ideal S256x128 .f32} {v2 : Vec Ideal S256x4096 .f32} {v4 : Vec Ideal S256x128 .f32}
  {w1 : Vec Ideal S128x768 .bf16} {b1 : Vec Ideal S128x1 .f32}
  {w2 : Vec Ideal S128x384 .bf16} {b2 : Vec Ideal S128x1 .f32} {w3 : Vec Ideal S128x384 .bf16} {b3 : Vec Ideal S128x1 .f32}
  {wh : Vec Ideal S320x384 .bf16} {bh : Vec Ideal S320x1 .f32} {wo : Vec Ideal S60x80 .bf16} {bo : Vec Ideal S60x1 .f32}
  (H : Holds N (4096 * (i 0).val) (xin i v0 v2 v4) w1 b1 w2 b2 w3 b3 wh bh wo bo)
include H

/-- After the third layer and its rectifier and mask the signal is the network's, but for three columns at either
end. -/
theorem third_apply (r : Fin 128) (p : Fin 4352) (h0 : 3 ≤ p.val) (h1 : p.val < 4352 - 3) :
    act (k0_pay4 i) (hidden i v0 v2 v4 w1 b1 w2 b2 w3 b3) (ix2 r p)
      = N.s3 (r.val / 32) (r.val % 32) (4096 * (i 0).val + p.val) := by
  have e1 : ∀ (r : Fin 128) (p : Fin 4352), 1 ≤ p.val → p.val < 4352 - 1 →
      act (k0_pay4 i) (layer1 (xin i v0 v2 v4) w1 b1) (ix2 r p) = N.s1 (r.val / 32) (r.val % 32) (4096 * (i 0).val + p.val) :=
    fun r p h0 h1 => by
      rw [act_apply, layer1_apply N.w1 N.b1 N.s0 (4096 * (i 0).val) _ _ _ H.hw1 H.hb1 H.hx r p ⟨h0, h1⟩]
      rfl
  have e2 : ∀ (r : Fin 128) (p : Fin 4352), 2 ≤ p.val → p.val < 4352 - 2 →
      act (k0_pay4 i) (layer (act (k0_pay4 i) (layer1 (xin i v0 v2 v4) w1 b1)) w2 b2) (ix2 r p)
        = N.s2 (r.val / 32) (r.val % 32) (4096 * (i 0).val + p.val) :=
    fun r p h0 h1 => by
      rw [act_apply, layer_apply N.w2 N.b2 N.s1 (4096 * (i 0).val) 1 _ _ _ H.hw2 H.hb2 e1 r p ⟨h0, h1⟩]
      rfl
  rw [hidden_eq, act_apply, layer_apply N.w3 N.b3 N.s2 (4096 * (i 0).val) 2 _ _ _ H.hw3 H.hb3 e2 r p ⟨h0, h1⟩]
  rfl

/-- The heads' hidden channels on the point's own columns. -/
theorem pay10_apply (r : Fin 320) (t : Fin 4096) :
    k0_pay10 (k0_pay4 i) (hidden i v0 v2 v4 w1 b1 w2 b2 w3 b3) k0_pay9 wh bh (ix2 r t)
      = N.sh (r.val / 80) (r.val % 80) (4096 * (i 0).val + 128 + t.val) := by
  have e : k0_pay10 (k0_pay4 i) (hidden i v0 v2 v4 w1 b1 w2 b2 w3 b3) k0_pay9 wh bh (ix2 r t)
      = lrelu (heads (act (k0_pay4 i) (hidden i v0 v2 v4 w1 b1 w2 b2 w3 b3)) wh bh (ix2 r ⟨128 + t.val, by omega⟩)) := by
    have e' : k0_pay10 (k0_pay4 i) (hidden i v0 v2 v4 w1 b1 w2 b2 w3 b3) k0_pay9 wh bh
      = extractStridedSlice S320x4096 ![0, 128]
          (select (cmpf .ogt (heads (act (k0_pay4 i) (hidden i v0 v2 v4 w1 b1 w2 b2 w3 b3)) wh bh)
              (broadcast S320x4352 (Scalar.ofBits .bf16 0x0000#16)))
            (heads (act (k0_pay4 i) (hidden i v0 v2 v4 w1 b1 w2 b2 w3 b3)) wh bh)
            (mulf (broadcast S320x4352 (Named.named κ "slope" 0x3E4D#16))
              (heads (act (k0_pay4 i) (hidden i v0 v2 v4 w1 b1 w2 b2 w3 b3)) wh bh)))
          slices_S320x4352_o0_128_S320x4096 := rfl
    rw [e']
    generalize heads (act (k0_pay4 i) (hidden i v0 v2 v4 w1 b1 w2 b2 w3 b3)) wh bh = y
    pointwise []
    simp only [named_slope, lrelu]
  rw [e, heads_apply N.wh N.bh N.s3 (4096 * (i 0).val) 3 _ _ _ H.hwh H.hbh (third_apply H) r ⟨128 + t.val, by omega⟩
    ⟨by simp only; omega, by simp only; omega⟩]
  exact congrArg lrelu (Sig.at_eq _ rfl rfl (by simp only; omega))

/-- The four slabs the body stores. -/
theorem slabs_apply (a : Fin 1) (q : Fin 60) (t : Fin 4096) :
    k0_pay13 (k0_pay4 i) (hidden i v0 v2 v4 w1 b1 w2 b2 w3 b3) k0_pay9 wh bh wo bo (ix3 a q t)
        = N.out 0 q.val (4096 * (i 0).val + 128 + t.val)
    ∧ k0_pay1 (k0_pay11 wo) (k0_pay12 bo) (k0_pay14 (k0_pay4 i) (hidden i v0 v2 v4 w1 b1 w2 b2 w3 b3) k0_pay9 wh bh)
        (constant S60x4096 .f32 0x00000000#32) (ix3 a q t) = N.out 1 q.val (4096 * (i 0).val + 128 + t.val)
    ∧ k0_pay2 (k0_pay10 (k0_pay4 i) (hidden i v0 v2 v4 w1 b1 w2 b2 w3 b3) k0_pay9 wh bh) (k0_pay11 wo) (k0_pay12 bo) (ix3 a q t)
        = N.out 2 q.val (4096 * (i 0).val + 128 + t.val)
    ∧ k0_pay3 (k0_pay10 (k0_pay4 i) (hidden i v0 v2 v4 w1 b1 w2 b2 w3 b3) k0_pay9 wh bh) (k0_pay11 wo) (k0_pay12 bo) (ix3 a q t)
        = N.out 3 q.val (4096 * (i 0).val + 128 + t.val) := by
  refine ⟨?_, ?_, ?_, ?_⟩
  · pointwise [k0_pay13, k0_pay11, k0_pay12]
    simp only [pay10_apply H, H.hwo, H.hbo]
    refine congrArg (· + _) (Finset.sum_congr rfl fun k _ => congrArg _ (Sig.at_eq _ ?_ ?_ rfl)) <;> omega
  · pointwise [k0_pay1, k0_pay14, k0_pay11, k0_pay12]
    simp only [pay10_apply H, H.hwo, H.hbo]
    refine congrArg (· + _) (Finset.sum_congr rfl fun k _ => congrArg _ (Sig.at_eq _ ?_ ?_ rfl)) <;> omega
  · pointwise [k0_pay2, k0_pay11, k0_pay12]
    simp only [pay10_apply H, H.hwo, H.hbo]
    refine congrArg (· + _) (Finset.sum_congr rfl fun k _ => congrArg _ (Sig.at_eq _ ?_ ?_ rfl)) <;> omega
  · pointwise [k0_pay3, k0_pay11, k0_pay12]
    simp only [pay10_apply H, H.hwo, H.hbo]
    refine congrArg (· + _) (Finset.sum_congr rfl fun k _ => congrArg _ (Sig.at_eq _ ?_ ?_ rfl)) <;> omega

end

end Cert.KernelIdeal.Net
-- ==== Proof.KernelIdealResult.lean ====
module

public import proofs.«01_k».proof.Proof.KernelIdealWeights
public import proofs.«01_k».proof.Proof.KernelIdealLayers
public import Idealize.ShloMosaic.Lib.Pipeline.ValueKit.Tiles

@[expose] public section

set_option maxRecDepth 16384

noncomputable section

/-! # The kernel's result as the network of its arguments -/

namespace Cert.KernelIdeal.Net

open Cert.KernelIdeal Cert.KernelIdeal.Gen Cert.Spec
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

/-! ## What the fetches bring -/

/-- The block numbers of the three windows of points. -/
theorem index_points : ∀ t : Fin cfg0.N, (cfg0.win 0).index t 0 = 0 ∧ (cfg0.win 0).index t 1 = 32 * t.val - 1
    ∧ (cfg0.win 1).index t 0 = 0 ∧ (cfg0.win 1).index t 1 = t.val
    ∧ (cfg0.win 2).index t 0 = 0 ∧ (cfg0.win 2).index t 1 = min (32 * t.val + 32) 187 := by
  decide +kernel

/-- The block numbers of the result's window. -/
theorem index_out : ∀ t : Fin cfg0.N, (cfg0.win 13).index t 0 = 0 ∧ (cfg0.win 13).index t 1 = 0
    ∧ (cfg0.win 13).index t 2 = t.val := by
  decide +kernel

/-- The reshaped input. -/
theorem V_x (r : Fin 256) (u : Fin 24000) :
    (V m c main_call0_v0 : FVec Ideal S256x24000 .f32) (ix2 r u) = (args m c).net.x (r.val / 64) (r.val % 64) u.val := by
  have hr := r.isLt
  unfold V
  after_reads_at
  exact at3_of (args m c).x _ _ _ (by omega) (by omega) (by omega)

/-- A fetched block at an index the fetch moves, for the left window of points. -/
theorem fetched0 (t : Fin cfg0.N) (r : Fin 256) (p : Fin 128) (u : Fin 24000) (h : 128 * (32 * t.val - 1) + p.val = u.val) :
    (filled m c 0 t : FVec Ideal S256x128 .f32) (ix2 r p) = (V m c main_call0_v0 : FVec Ideal S256x24000 .f32) (ix2 r u) := by
  have hm : (cfg0.win 0).moved (cfg0.grid.coords t) (ix2 r p) = true :=
    ((cfg0.win 0).moved_iff (cfg0.grid.coords t) (ix2 r p)).mpr fun a => by
      match a with
      | ⟨0, _⟩ => exact r.isLt.trans_eq (xsize_rows t).1.symm
      | ⟨1, _⟩ => exact p.isLt.trans_eq (xsize_cols t).1.symm
  unfold filled Window.fill
  rw [dif_pos hm]
  show (V m c main_call0_v0 : FVec Ideal S256x24000 .f32) _ = _
  congr 1
  funext a
  match a with
  | ⟨0, _⟩ =>
    refine Fin.ext ?_
    show (cfg0.win 0).index t 0 * 256 + 1 * r.val = r.val
    rw [(index_points t).1]; omega
  | ⟨1, _⟩ =>
    refine Fin.ext ?_
    show (cfg0.win 0).index t 1 * 128 + 1 * p.val = u.val
    rw [(index_points t).2.1]; omega

/-- A fetched block at an index the fetch moves, for the middle window of points. -/
theorem fetched1 (t : Fin cfg0.N) (r : Fin 256) (p : Fin 4096) (u : Fin 24000) (h : 4096 * t.val + p.val = u.val) :
    (filled m c 1 t : FVec Ideal S256x4096 .f32) (ix2 r p) = (V m c main_call0_v0 : FVec Ideal S256x24000 .f32) (ix2 r u) := by
  have hu := u.isLt
  have hp := p.isLt
  have hm : (cfg0.win 1).moved (cfg0.grid.coords t) (ix2 r p) = true :=
    ((cfg0.win 1).moved_iff (cfg0.grid.coords t) (ix2 r p)).mpr fun a => by
      match a with
      | ⟨0, _⟩ => exact r.isLt.trans_eq (xsize_rows t).2.1.symm
      | ⟨1, _⟩ => exact (show p.val < min 4096 (24000 - 4096 * t.val) by omega).trans_eq (xsize_cols t).2.1.symm
  unfold filled Window.fill
  rw [dif_pos hm]
  show (V m c main_call0_v0 : FVec Ideal S256x24000 .f32) _ = _
  congr 1
  funext a
  match a with
  | ⟨0, _⟩ =>
    refine Fin.ext ?_
    show (cfg0.win 1).index t 0 * 256 + 1 * r.val = r.val
    rw [(index_points t).2.2.1]; omega
  | ⟨1, _⟩ =>
    refine Fin.ext ?_
    show (cfg0.win 1).index t 1 * 4096 + 1 * p.val = u.val
    rw [(index_points t).2.2.2.1]; omega

/-- A fetched block at an index the fetch moves, for the right window of points before the last. -/
theorem fetched2 (t : Fin cfg0.N) (ht : t.val < 5) (r : Fin 256) (p : Fin 128) (u : Fin 24000)
    (h : 128 * (32 * t.val + 32) + p.val = u.val) :
    (filled m c 2 t : FVec Ideal S256x128 .f32) (ix2 r p) = (V m c main_call0_v0 : FVec Ideal S256x24000 .f32) (ix2 r u) := by
  have hm : (cfg0.win 2).moved (cfg0.grid.coords t) (ix2 r p) = true :=
    ((cfg0.win 2).moved_iff (cfg0.grid.coords t) (ix2 r p)).mpr fun a => by
      match a with
      | ⟨0, _⟩ => exact r.isLt.trans_eq (xsize_rows t).2.2.symm
      | ⟨1, _⟩ => exact p.isLt.trans_eq ((xsize_cols t).2.2.trans (if_pos ht)).symm
  unfold filled Window.fill
  rw [dif_pos hm]
  show (V m c main_call0_v0 : FVec Ideal S256x24000 .f32) _ = _
  congr 1
  funext a
  match a with
  | ⟨0, _⟩ =>
    refine Fin.ext ?_
    show (cfg0.win 2).index t 0 * 256 + 1 * r.val = r.val
    rw [(index_points t).2.2.2.2.1]; omega
  | ⟨1, _⟩ =>
    refine Fin.ext ?_
    show (cfg0.win 2).index t 1 * 128 + 1 * p.val = u.val
    rw [(index_points t).2.2.2.2.2]; omega

/-- The masked input of a point is the network's at the point's times. -/
theorem xin_filled (t : Fin cfg0.N) (r : Fin 256) (p : Fin 4352) :
    (xin (cfg0.grid.coords t) (filled m c 0 t) (filled m c 1 t) (filled m c 2 t) (ix2 r p) : EReal)
      = (args m c).net.s0 (r.val / 64) (r.val % 64) (4096 * ((cfg0.grid.coords t) 0).val + p.val) := by
  have ht : t.val < 6 := t.isLt
  have hp := p.isLt
  rw [xin_apply, coords_val]
  show _ = if Inside _ then _ else _
  by_cases hc : 128 ≤ 4096 * t.val + p.val ∧ 4096 * t.val + p.val < 24128
  · rw [if_pos hc, if_pos (show Inside _ from hc)]
    obtain ⟨hc0, hc1⟩ := hc
    refine Eq.trans ?_ (V_x m c r ⟨4096 * t.val + p.val - 128, by omega⟩)
    by_cases h0 : p.val < 128
    · rw [dif_pos h0]
      exact fetched0 m c t r _ _ (by simp only; omega)
    rw [dif_neg h0]
    by_cases h1 : p.val - 128 < 4096
    · rw [dif_pos h1]
      exact fetched1 m c t r _ _ (by simp only; omega)
    rw [dif_neg h1]
    exact fetched2 m c t (by omega) r _ _ (by simp only; omega)
  · rw [if_neg hc, if_neg (show ¬ Inside _ from hc)]
    pointwise

/-- The windows of weights hold block zero, and as much as their arrays. -/
theorem index_whole : ∀ w : Fin cfg0.W, 3 ≤ w.val ∧ w.val < 13 → ∀ t : Fin cfg0.N, ∀ a,
    (cfg0.win w).kind.off ((cfg0.win w).index t a) ((cfg0.win w).size a) = 0 ∧ (cfg0.win w).size a ≤ (cfg0.win w).shape.size a := by
  decide +kernel

/-- A window of weights holds its array. -/
theorem fetched_whole (w : Fin cfg0.W) (hw : 3 ≤ w.val ∧ w.val < 13) (t : Fin cfg0.N) (j : (cfg0.win w).block.Idx) :
    filled m c w t j = (cfg0.win w).arr.view.read (Elt Ideal) (V m c (Pipeline.arrRef spec0 w))
      (fun a => ⟨(j a).val, (j a).isLt.trans_le (index_whole w hw t a).2⟩) := by
  have hm : (cfg0.win w).moved (cfg0.grid.coords t) j = true :=
    ((cfg0.win w).moved_iff (cfg0.grid.coords t) j).mpr fun a => by
      rw [win_whole w hw t a]
      exact (j a).isLt
  unfold filled Window.fill
  rw [dif_pos hm]
  show (cfg0.win w).arr.view.read (Elt Ideal) (V m c (Pipeline.arrRef spec0 w)) (((cfg0.win w).rect t).emb _) = _
  congr 1
  funext a
  refine Fin.ext ?_
  rw [Rect.emb_apply]
  show (cfg0.win w).kind.off ((cfg0.win w).index t a) ((cfg0.win w).size a) + 1 * (j a).val = (j a).val
  rw [(index_whole w hw t a).1]
  omega

set_option maxHeartbeats 4000000 in
/-- The windows of a point hold what the network's function reads. -/
theorem holds (t : Fin cfg0.N) :
    Holds (args m c).net (4096 * ((cfg0.grid.coords t) 0).val)
      (xin (cfg0.grid.coords t) (filled m c 0 t) (filled m c 1 t) (filled m c 2 t)) (filled m c 3 t) (filled m c 4 t)
      (filled m c 5 t) (filled m c 6 t) (filled m c 7 t) (filled m c 8 t) (filled m c 9 t) (filled m c 10 t)
      (filled m c 11 t) (filled m c 12 t) where
  hx := xin_filled m c t
  hw1 r k := (fetched_whole m c 3 (by decide) t (ix2 r k)).trans (V_w1 m c r k)
  hb1 r := (fetched_whole m c 4 (by decide) t (ix2 r 0)).trans (V_b1 m c r)
  hw2 r k := (fetched_whole m c 5 (by decide) t (ix2 r k)).trans (V_w2 m c r k)
  hb2 r := (fetched_whole m c 6 (by decide) t (ix2 r 0)).trans (V_b2 m c r)
  hw3 r k := (fetched_whole m c 7 (by decide) t (ix2 r k)).trans (V_w3 m c r k)
  hb3 r := (fetched_whole m c 8 (by decide) t (ix2 r 0)).trans (V_b3 m c r)
  hwh r k := (fetched_whole m c 9 (by decide) t (ix2 r k)).trans (V_wh m c r k)
  hbh r := (fetched_whole m c 10 (by decide) t (ix2 r 0)).trans (V_bh m c r)
  hwo q k := (fetched_whole m c 11 (by decide) t (ix2 q k)).trans (V_wo m c q k)
  hbo q := (fetched_whole m c 12 (by decide) t (ix2 q 0)).trans (V_bo m c q)

/-! ## The block a point writes, and the whole result -/

/-- The block a point writes is the network's output at the point's times. -/
theorem outBlk_apply (t : Fin cfg0.N) (y : S4x60x4096.Idx) :
    (outBlk m c t y : EReal) = (args m c).net.out (y 0).val (y 1).val (4096 * t.val + 128 + (y 2).val) := by
  have H := holds m c t
  have S := slabs_apply H
  rw [coords_val] at S
  unfold outBlk block
  canon_tiles x h
  all_goals
    obtain ⟨a, q, u, rfl⟩ : ∃ (a : Fin 1) (q : Fin 60) (u : Fin 4096), x = ix3 a q u := ⟨x 0, x 1, x 2, eq_ix3 x⟩
    have ha : ((ix3 a q u : S1x60x4096.Idx) 0).val = 0 := by
      show a.val = 0
      omega
    rw [ha] at h0
    rw [h0, h1, h2]
  · exact (S a q u).2.2.2
  · exact (S a q u).2.2.1
  · exact (S a q u).2.1
  · exact (S a q u).1

/-- The array the kernel leaves: the network's output, at the array's own times. -/
def result : FVec Ideal S4x60x24000 .f32 := fun j =>
  (args m c).net.out (j 0).val (j 1).val ((j 2).val + 128)

/-- The columns a write-back moves: those inside the array. -/
theorem xsize_out : ∀ t : Fin cfg0.N, (cfg0.win 13).xsize (cfg0.grid.coords t) 0 = 4
    ∧ (cfg0.win 13).xsize (cfg0.grid.coords t) 1 = 60
    ∧ (cfg0.win 13).xsize (cfg0.grid.coords t) 2 = min 4096 (24000 - 4096 * t.val) := by
  decide +kernel

/-- Every point writes its block back. -/
theorem flush_out : ∀ t : Fin cfg0.N, (cfg0.win 13).flush t = true := by decide +kernel

/-- Where the result's window at a point lies in the array. -/
theorem emb_out (t : Fin cfg0.N) (y : ((cfg0.win 13).xblock (cfg0.grid.coords t)).Idx) (a : Fin 3) :
    ((((cfg0.win 13).blk t).view.emb y : S4x60x24000.Idx) a).val = (if a = 2 then 4096 * t.val else 0) + (y a).val := by
  obtain ⟨h0, h1, h2⟩ := index_out t
  match a with
  | ⟨0, _⟩ =>
    show (cfg0.win 13).index t 0 * 4 + 1 * (y 0).val = 0 + (y 0).val
    rw [h0]; omega
  | ⟨1, _⟩ =>
    show (cfg0.win 13).index t 1 * 60 + 1 * (y 1).val = 0 + (y 1).val
    rw [h1]; omega
  | ⟨2, _⟩ =>
    show (cfg0.win 13).index t 2 * 4096 + 1 * (y 2).val = 4096 * t.val + (y 2).val
    rw [h2]; omega

/-- The array the run leaves is the network's output. -/
theorem arrAt_result : (dats m 0 c).arrAt 13 cfg0.N = result m c := by
  refine (dats m 0 c).arrAt_eq_of_cover 13 (result m c) (fun t _ => ?_) (fun i => ?_)
  · funext y
    show (dats m 0 c).after 13 t ((cfg0.win 13).xinj (cfg0.grid.coords t) y) = result m c (((cfg0.win 13).blk t).view.emb y)
    rw [after_out]
    refine (outBlk_apply m c t _).trans ?_
    unfold result
    rw [emb_out t y 0, emb_out t y 1, emb_out t y 2]
    show (args m c).net.out (y 0).val (y 1).val (4096 * t.val + 128 + (y 2).val)
      = (args m c).net.out (0 + (y 0).val) (0 + (y 1).val) (4096 * t.val + (y 2).val + 128)
    rw [Nat.zero_add, Nat.zero_add, show 4096 * t.val + 128 + (y 2).val = 4096 * t.val + (y 2).val + 128 by omega]
  · have h0 : (i 0).val < 4 := (i 0).isLt
    have h1 : (i 1).val < 60 := (i 1).isLt
    have h2 : (i 2).val < 24000 := (i 2).isLt
    let t : Fin cfg0.N := ⟨(i 2).val / 4096, show (i 2).val / 4096 < 6 by omega⟩
    refine ⟨t, flush_out t, ?_⟩
    let y : ((cfg0.win 13).xblock (cfg0.grid.coords t)).Idx := fun a =>
      match a with
      | ⟨0, _⟩ => ⟨(i 0).val, h0.trans_eq (xsize_out t).1.symm⟩
      | ⟨1, _⟩ => ⟨(i 1).val, h1.trans_eq (xsize_out t).2.1.symm⟩
      | ⟨2, _⟩ => ⟨(i 2).val % 4096, (show (i 2).val % 4096 < min 4096 (24000 - 4096 * ((i 2).val / 4096)) by omega).trans_eq (xsize_out t).2.2.symm⟩
    have e : ((cfg0.win 13).blk t).view.emb y = i := by
      funext a
      refine Fin.ext ((emb_out t y a).trans ?_)
      match a with
      | ⟨0, _⟩ => show 0 + (i 0).val = (i 0).val; omega
      | ⟨1, _⟩ => show 0 + (i 1).val = (i 1).val; omega
      | ⟨2, _⟩ => show 4096 * ((i 2).val / 4096) + (i 2).val % 4096 = (i 2).val; omega
    rw [← e]
    exact ((cfg0.win 13).blk t).view.emb_mem_set y

end Cert.KernelIdeal.Net
-- ==== Proof.ReferenceIdealLayers.lean ====
module

public import proofs.«01_k».proof.Proof.Gen.ReferenceIdeal
public import proofs.«01_k».proof.Proof.Args

@[expose] public section

noncomputable section

/-! # The reference's layers, read at an index

Each layer is named as a function of its arrays and read as the plain sums: the convolution of three taps in its five
shapes, the leaky rectifier, the padding by one zero on either side of time, and the last product. -/

namespace Cert.ReferenceIdeal.Net

open Cert.ReferenceIdeal Cert.ReferenceIdeal.Gen Cert.Spec
open Idealize.ShloMosaic Idealize.ShloMosaic.TcCoe

/-! ## Sums of products

What a layer reads as, over any numbers of channels, is the network's sum. -/

/-- The taps of a signal and of a weight over all the input channels, and the bias, are a convolution. -/
theorem conv_dense {I C : ℕ} (s : Sig) (x : FVec Ideal ⟨4, ![4, 1, I, 24002]⟩ .f32) (w : FVec Ideal ⟨3, ![C, I, 3]⟩ .f32)
    (b : FVec Ideal ⟨1, ![C]⟩ .f32)
    (hx : ∀ (n : Fin 4) (g : Fin 1) (i : Fin I) (τ : Fin 24002),
      (x (ix4 n g i τ) : EReal) = s n.val (g.val * I + i.val) (τ.val + 127))
    (n : Fin 4) (o : Fin C) (t : Fin 24000) :
    ((∑ i : Fin I, x (ix4 n 0 i ⟨t.val, by omega⟩) * w (ix3 o i 0))
        + (∑ i : Fin I, x (ix4 n 0 i ⟨1 + t.val, by omega⟩) * w (ix3 o i 1))
        + (∑ i : Fin I, x (ix4 n 0 i ⟨2 + t.val, by omega⟩) * w (ix3 o i 2)) + b (ix1 o) : EReal)
      = conv I (at3 w) (at1 b) s n.val o.val (t.val + 128) := by
  have key (j : Fin 3) (τ : Fin 24002) (u : ℕ) (hu : τ.val + 127 = u) :
      (∑ i : Fin I, x (ix4 n 0 i τ) * w (ix3 o i j) : EReal) = ∑ i : Fin I, at3 w o.val i.val j.val * s n.val i.val u :=
    Finset.sum_congr rfl fun i _ => (mul_comm _ _).trans
      (congrArg₂ (· * ·) (at3_of w o.isLt i.isLt j.isLt rfl rfl rfl) ((hx _ _ _ _).trans (s.at_eq rfl (by simp) hu)))
  unfold conv
  exact congrArg₂ (· + ·) (congrArg₂ (· + ·) (congrArg₂ (· + ·) (key 0 _ _ (by simp only []; omega))
    (key 1 _ _ (by simp only []; omega))) (key 2 _ _ (by simp only []; omega))) (at1_of b o.isLt rfl)

/-- The taps over the eight input channels of the output's group, and the bias, are the grouped convolution: the
    other channels have weight zero. -/
theorem conv_grouped {C : ℕ} (O : ℕ) (s : Sig) (x : FVec Ideal ⟨4, ![4, 4, 8, 24002]⟩ .f32)
    (w : FVec Ideal ⟨3, ![C, 8, 3]⟩ .f32) (b : FVec Ideal ⟨1, ![C]⟩ .f32)
    (hx : ∀ (n : Fin 4) (g : Fin 4) (i : Fin 8) (τ : Fin 24002),
      (x (ix4 n g i τ) : EReal) = s n.val (g.val * 8 + i.val) (τ.val + 127))
    (n : Fin 4) (o : Fin C) (t : Fin 24000) (g : Fin 4) (hg : o.val / O = g.val) :
    ((∑ i : Fin 8, x (ix4 n g i ⟨t.val, by omega⟩) * w (ix3 o i 0))
        + (∑ i : Fin 8, x (ix4 n g i ⟨1 + t.val, by omega⟩) * w (ix3 o i 1))
        + (∑ i : Fin 8, x (ix4 n g i ⟨2 + t.val, by omega⟩) * w (ix3 o i 2)) + b (ix1 o) : EReal)
      = conv 32 (grouped O (at3 w)) (at1 b) s n.val o.val (t.val + 128) := by
  have key (j : Fin 3) (τ : Fin 24002) (u : ℕ) (hu : τ.val + 127 = u) :
      (∑ i : Fin 8, x (ix4 n g i τ) * w (ix3 o i j) : EReal)
        = ∑ k : Fin 32, grouped O (at3 w) o.val k.val j.val * s n.val k.val u := by
    unfold grouped
    rw [sum_group 4 8 32 (o.val / O) rfl (hg.trans_lt g.isLt) (fun i => at3 w o.val i j.val) (fun k => s n.val k u), hg]
    exact Finset.sum_congr rfl fun i _ => (mul_comm _ _).trans
      (congrArg₂ (· * ·) (at3_of w o.isLt i.isLt j.isLt rfl rfl rfl) ((hx _ _ _ _).trans (s.at_eq rfl rfl hu)))
  unfold conv
  exact congrArg₂ (· + ·) (congrArg₂ (· + ·) (congrArg₂ (· + ·) (key 0 _ _ (by simp only []; omega))
    (key 1 _ _ (by simp only []; omega))) (key 2 _ _ (by simp only []; omega))) (at1_of b o.isLt rfl)

/-- A product over a head's sixteen hidden channels, and the bias. -/
theorem sum_hidden {O : ℕ} (h : Sig) (y : FVec Ideal ⟨4, ![4, 1, 16, 24000]⟩ .f32) (w : FVec Ideal ⟨3, ![O, 16, 1]⟩ .f32)
    (b : FVec Ideal ⟨1, ![O]⟩ .f32)
    (hy : ∀ (n : Fin 4) (k : Fin 16) (t : Fin 24000), (y (ix4 n 0 k t) : EReal) = h n.val k.val (t.val + 128))
    (n : Fin 4) (q : Fin O) (t : Fin 24000) :
    ((∑ k : Fin 16, y (ix4 n 0 k t) * w (ix3 q k 0)) + b (ix1 q) : EReal)
      = (∑ k : Fin 16, at3 w q.val k.val 0 * h n.val k.val (t.val + 128)) + at1 b q.val :=
  congrArg₂ (· + ·) (Finset.sum_congr rfl fun k _ => (mul_comm _ _).trans
    (congrArg₂ (· * ·) (at3_of w q.isLt k.isLt Nat.one_pos rfl rfl rfl) (hy n k t))) (at1_of b q.isLt rfl)

/-! ## The rectifier and the padding -/

/-- The reference's slope is the float nearest to one fifth. -/
theorem ofBits_slope : (Ideal.ofBits .f32 0x3E4CCCCD#32 : EReal) = Spec.slope := by
  unfold Spec.slope
  simp [Ideal.ofBits, Ideal.ieee]
  rw [← EReal.coe_mul]
  norm_num

/-- The leaky rectifier on `C` channels. -/
def act {C : ℕ} (hb : S_.BroadcastsInDim ⟨3, ![4, C, 24000]⟩ ![]) (x : FVec Ideal ⟨3, ![4, C, 24000]⟩ .f32) :
    FVec Ideal ⟨3, ![4, C, 24000]⟩ .f32 :=
  select (cmpf .ogt x (broadcastInDim _ ![] hb (constant S_ .f32 0x00000000#32))) x
    (mulf (broadcastInDim _ ![] hb (constant S_ .f32 0x3E4CCCCD#32)) x)

/-- The leaky rectifier, at an index. -/
theorem act_apply {C : ℕ} (hb : S_.BroadcastsInDim ⟨3, ![4, C, 24000]⟩ ![]) (h : Sig) (x : FVec Ideal ⟨3, ![4, C, 24000]⟩ .f32)
    (hx : ∀ (n : Fin 4) (o : Fin C) (t : Fin 24000), (x (ix3 n o t) : EReal) = h n.val o.val (t.val + 128))
    (n : Fin 4) (o : Fin C) (t : Fin 24000) :
    (act hb x (ix3 n o t) : EReal) = rect h n.val o.val (t.val + 128) := by
  pointwise [act]
  rw [ofBits_slope, hx]
  rfl

/-- What the padding writes beside a signal is the signal's zero off the array. -/
theorem padded (h : Sig) (n o τ : ℕ) (y : EReal) (P : Prop) [Decidable P] (hP : P ↔ 1 ≤ τ ∧ τ - 1 < 24000)
    (f : P → EReal) (hf : ∀ p, f p = h n o (τ - 1 + 128)) (hy : y = 0) :
    (if p : P then f p else y) = masked h n o (τ + 127) := by
  unfold masked
  by_cases p : P
  · have hp := hP.mp p
    rw [dif_pos p, if_pos (show Inside _ from ⟨by omega, by omega⟩), hf]
    exact h.at_eq rfl rfl (by omega)
  · rw [dif_neg p, if_neg (fun q : Inside _ => p (hP.mpr ⟨by have := q.1; omega, by have := q.2; omega⟩)), hy]

/-- The padding's value. -/
theorem sitofp_zero : (FloatOps.sitofp (F := Ideal) .f32 (0#32) : EReal) = 0 := by
  simp [FloatOps.sitofp]

/-- The input, padded, in one group. -/
def padIn (x : FVec Ideal S4x64x24000 .f32) : FVec Ideal S4x1x64x24002 .f32 :=
  shapeCast _ (pad S4x64x24002 ![0, 0, 1] ![0, 0, 1] ![0, 0, 0] x (sitofp .f32 (constantI S_ 32 0#32))
    pads_S4x64x24000_S4x64x24002_000_000_110 h_S_) shapeCasts_S4x64x24002_S4x1x64x24002

/-- The input, padded, in one group, at an index. -/
theorem padIn_apply (h : Sig) (x : FVec Ideal S4x64x24000 .f32)
    (hx : ∀ (n : Fin 4) (o : Fin 64) (t : Fin 24000), (x (ix3 n o t) : EReal) = h n.val o.val (t.val + 128))
    (n : Fin 4) (g : Fin 1) (i : Fin 64) (τ : Fin 24002) :
    (padIn x (ix4 n g i τ) : EReal) = masked h n.val (g.val * 64 + i.val) (τ.val + 127) := by
  have hg := g.isLt
  have hi := i.isLt
  pointwise [padIn]
  exact padded h n.val i.val τ.val _ _ (by omega) _ (fun p => hx _ _ _) sitofp_zero

/-- Thirty-two channels, padded, in four groups. -/
def padGroups (x : FVec Ideal S4x32x24000 .f32) : FVec Ideal S4x4x8x24002 .f32 :=
  shapeCast _ (pad S4x32x24002 ![0, 0, 1] ![0, 0, 1] ![0, 0, 0] x (sitofp .f32 (constantI S_ 32 0#32))
    pads_S4x32x24000_S4x32x24002_000_000_110 h_S_) shapeCasts_S4x32x24002_S4x4x8x24002

/-- Thirty-two channels, padded, in four groups, at an index. -/
theorem padGroups_apply (h : Sig) (x : FVec Ideal S4x32x24000 .f32)
    (hx : ∀ (n : Fin 4) (o : Fin 32) (t : Fin 24000), (x (ix3 n o t) : EReal) = h n.val o.val (t.val + 128))
    (n : Fin 4) (g : Fin 4) (i : Fin 8) (τ : Fin 24002) :
    (padGroups x (ix4 n g i τ) : EReal) = masked h n.val (g.val * 8 + i.val) (τ.val + 127) := by
  have hg := g.isLt
  have hi := i.isLt
  pointwise [padGroups]
  exact padded h n.val (g.val * 8 + i.val) τ.val _ _ (by omega) _ (fun p => hx _ _ _) sitofp_zero

/-- Thirty-two channels, padded, in one group. -/
def padOne (x : FVec Ideal S4x32x24000 .f32) : FVec Ideal S4x1x32x24002 .f32 :=
  shapeCast _ (pad S4x32x24002 ![0, 0, 1] ![0, 0, 1] ![0, 0, 0] x (sitofp .f32 (constantI S_ 32 0#32))
    pads_S4x32x24000_S4x32x24002_000_000_110 h_S_) shapeCasts_S4x32x24002_S4x1x32x24002

/-- Thirty-two channels, padded, in one group, at an index. -/
theorem padOne_apply (h : Sig) (x : FVec Ideal S4x32x24000 .f32)
    (hx : ∀ (n : Fin 4) (o : Fin 32) (t : Fin 24000), (x (ix3 n o t) : EReal) = h n.val o.val (t.val + 128))
    (n : Fin 4) (g : Fin 1) (i : Fin 32) (τ : Fin 24002) :
    (padOne x (ix4 n g i τ) : EReal) = masked h n.val (g.val * 32 + i.val) (τ.val + 127) := by
  have hg := g.isLt
  have hi := i.isLt
  pointwise [padOne]
  exact padded h n.val i.val τ.val _ _ (by omega) _ (fun p => hx _ _ _) sitofp_zero

/-! ## The convolutions -/

/-- One tap of the first layer's convolution. -/
def tapOne (j : ℕ) (hx : S4x1x64x24002.Slices ![0, 0, 0, j] S4x1x64x24000) (hw : S1x32x64x3.Slices ![0, 0, 0, j] S1x32x64x1)
    (x : FVec Ideal S4x1x64x24002 .f32) (w : FVec Ideal S32x64x3 .f32) : FVec Ideal S4x1x32x24000 .f32 :=
  transpose S4x1x32x24000 [1, 0, 3, 2] (Host.dotGeneral dot_S4x1x64x24000_S1x32x64_S1x4x24000x32_2_2_03_1_1_0 none
    (extractStridedSlice S4x1x64x24000 ![0, 0, 0, j] x hx)
    (shapeCast _ (extractStridedSlice S1x32x64x1 ![0, 0, 0, j] (shapeCast _ w shapeCasts_S32x64x3_S1x32x64x3 : FVec Ideal S1x32x64x3 .f32) hw)
      shapeCasts_S1x32x64x1_S1x32x64))
    transposes_S1x4x24000x32_S4x1x32x24000_1_0_3_2

/-- The first layer's convolution: three taps and the bias. -/
def convOne (x : FVec Ideal S4x1x64x24002 .f32) (w : FVec Ideal S32x64x3 .f32) (b : FVec Ideal S32 .f32) :
    FVec Ideal S4x32x24000 .f32 :=
  addf (shapeCast _ (addf (addf (addf
      (broadcastInDim S4x1x32x24000 ![] bcast_S_S4x1x32x24000 (constant S_ .f32 0x00000000#32))
      (tapOne 0 slices_S4x1x64x24002_S4x1x64x24000_0_0_0_0 slices_S1x32x64x3_S1x32x64x1_0_0_0_0 x w))
      (tapOne 1 slices_S4x1x64x24002_S4x1x64x24000_0_0_0_1 slices_S1x32x64x3_S1x32x64x1_0_0_0_1 x w))
      (tapOne 2 slices_S4x1x64x24002_S4x1x64x24000_0_0_0_2 slices_S1x32x64x3_S1x32x64x1_0_0_0_2 x w))
    shapeCasts_S4x1x32x24000_S4x32x24000)
    (broadcastInDim S4x32x24000 ![0, 1, 2] bcast_S1x32x1_S4x32x24000_0_1_2 (broadcastInDim S1x32x1 ![1] bcast_S32_S1x32x1_1 b))

/-- The first layer's convolution, at an index. -/
theorem convOne_read (x : FVec Ideal S4x1x64x24002 .f32) (w : FVec Ideal S32x64x3 .f32) (b : FVec Ideal S32 .f32)
    (n : Fin 4) (o : Fin 32) (t : Fin 24000) :
    (convOne x w b (ix3 n o t) : EReal)
      = (∑ i : Fin 64, x (ix4 n 0 i ⟨t.val, by omega⟩) * w (ix3 o i 0))
        + (∑ i : Fin 64, x (ix4 n 0 i ⟨1 + t.val, by omega⟩) * w (ix3 o i 1))
        + (∑ i : Fin 64, x (ix4 n 0 i ⟨2 + t.val, by omega⟩) * w (ix3 o i 2)) + b (ix1 o) := by
  pointwise [convOne, tapOne]

/-- One tap of the second layer's convolution, in four groups. -/
def tapTwo (j : ℕ) (hx : S4x4x8x24002.Slices ![0, 0, 0, j] S4x4x8x24000) (hw : S4x8x8x3.Slices ![0, 0, 0, j] S4x8x8x1)
    (x : FVec Ideal S4x4x8x24002 .f32) (w : FVec Ideal S32x8x3 .f32) : FVec Ideal S4x4x8x24000 .f32 :=
  transpose S4x4x8x24000 [1, 0, 3, 2] (Host.dotGeneral dot_S4x4x8x24000_S4x8x8_S4x4x24000x8_2_2_03_1_1_0 none
    (extractStridedSlice S4x4x8x24000 ![0, 0, 0, j] x hx)
    (shapeCast _ (extractStridedSlice S4x8x8x1 ![0, 0, 0, j] (shapeCast _ w shapeCasts_S32x8x3_S4x8x8x3 : FVec Ideal S4x8x8x3 .f32) hw)
      shapeCasts_S4x8x8x1_S4x8x8))
    transposes_S4x4x24000x8_S4x4x8x24000_1_0_3_2

/-- The second layer's convolution, in four groups: three taps and the bias. -/
def convTwo (x : FVec Ideal S4x4x8x24002 .f32) (w : FVec Ideal S32x8x3 .f32) (b : FVec Ideal S32 .f32) :
    FVec Ideal S4x32x24000 .f32 :=
  addf (shapeCast _ (addf (addf (addf
      (broadcastInDim S4x4x8x24000 ![] bcast_S_S4x4x8x24000 (constant S_ .f32 0x00000000#32))
      (tapTwo 0 slices_S4x4x8x24002_S4x4x8x24000_0_0_0_0 slices_S4x8x8x3_S4x8x8x1_0_0_0_0 x w))
      (tapTwo 1 slices_S4x4x8x24002_S4x4x8x24000_0_0_0_1 slices_S4x8x8x3_S4x8x8x1_0_0_0_1 x w))
      (tapTwo 2 slices_S4x4x8x24002_S4x4x8x24000_0_0_0_2 slices_S4x8x8x3_S4x8x8x1_0_0_0_2 x w))
    shapeCasts_S4x4x8x24000_S4x32x24000)
    (broadcastInDim S4x32x24000 ![0, 1, 2] bcast_S1x32x1_S4x32x24000_0_1_2 (broadcastInDim S1x32x1 ![1] bcast_S32_S1x32x1_1 b))

/-- The second layer's convolution, in four groups, at an index. -/
theorem convTwo_read (x : FVec Ideal S4x4x8x24002 .f32) (w : FVec Ideal S32x8x3 .f32) (b : FVec Ideal S32 .f32)
    (n : Fin 4) (o : Fin 32) (t : Fin 24000) :
    (convTwo x w b (ix3 n o t) : EReal)
      = (∑ i : Fin 8, x (ix4 n ⟨o.val / 8, by omega⟩ i ⟨t.val, by omega⟩) * w (ix3 o i 0))
        + (∑ i : Fin 8, x (ix4 n ⟨o.val / 8, by omega⟩ i ⟨1 + t.val, by omega⟩) * w (ix3 o i 1))
        + (∑ i : Fin 8, x (ix4 n ⟨o.val / 8, by omega⟩ i ⟨2 + t.val, by omega⟩) * w (ix3 o i 2)) + b (ix1 o) := by
  pointwise [convTwo, tapTwo]

/-- One tap of the third layer's convolution. -/
def tapThree (j : ℕ) (hx : S4x1x32x24002.Slices ![0, 0, 0, j] S4x1x32x24000) (hw : S1x32x32x3.Slices ![0, 0, 0, j] S1x32x32x1)
    (x : FVec Ideal S4x1x32x24002 .f32) (w : FVec Ideal S32x32x3 .f32) : FVec Ideal S4x1x32x24000 .f32 :=
  transpose S4x1x32x24000 [1, 0, 3, 2] (Host.dotGeneral dot_S4x1x32x24000_S1x32x32_S1x4x24000x32_2_2_03_1_1_0 none
    (extractStridedSlice S4x1x32x24000 ![0, 0, 0, j] x hx)
    (shapeCast _ (extractStridedSlice S1x32x32x1 ![0, 0, 0, j] (shapeCast _ w shapeCasts_S32x32x3_S1x32x32x3 : FVec Ideal S1x32x32x3 .f32) hw)
      shapeCasts_S1x32x32x1_S1x32x32))
    transposes_S1x4x24000x32_S4x1x32x24000_1_0_3_2

/-- The third layer's convolution: three taps and the bias. -/
def convThree (x : FVec Ideal S4x1x32x24002 .f32) (w : FVec Ideal S32x32x3 .f32) (b : FVec Ideal S32 .f32) :
    FVec Ideal S4x32x24000 .f32 :=
  addf (shapeCast _ (addf (addf (addf
      (broadcastInDim S4x1x32x24000 ![] bcast_S_S4x1x32x24000 (constant S_ .f32 0x00000000#32))
      (tapThree 0 slices_S4x1x32x24002_S4x1x32x24000_0_0_0_0 slices_S1x32x32x3_S1x32x32x1_0_0_0_0 x w))
      (tapThree 1 slices_S4x1x32x24002_S4x1x32x24000_0_0_0_1 slices_S1x32x32x3_S1x32x32x1_0_0_0_1 x w))
      (tapThree 2 slices_S4x1x32x24002_S4x1x32x24000_0_0_0_2 slices_S1x32x32x3_S1x32x32x1_0_0_0_2 x w))
    shapeCasts_S4x1x32x24000_S4x32x24000)
    (broadcastInDim S4x32x24000 ![0, 1, 2] bcast_S1x32x1_S4x32x24000_0_1_2 (broadcastInDim S1x32x1 ![1] bcast_S32_S1x32x1_1 b))

/-- The third layer's convolution, at an index. -/
theorem convThree_read (x : FVec Ideal S4x1x32x24002 .f32) (w : FVec Ideal S32x32x3 .f32) (b : FVec Ideal S32 .f32)
    (n : Fin 4) (o : Fin 32) (t : Fin 24000) :
    (convThree x w b (ix3 n o t) : EReal)
      = (∑ i : Fin 32, x (ix4 n 0 i ⟨t.val, by omega⟩) * w (ix3 o i 0))
        + (∑ i : Fin 32, x (ix4 n 0 i ⟨1 + t.val, by omega⟩) * w (ix3 o i 1))
        + (∑ i : Fin 32, x (ix4 n 0 i ⟨2 + t.val, by omega⟩) * w (ix3 o i 2)) + b (ix1 o) := by
  pointwise [convThree, tapThree]

/-- One tap of a grouped head's convolution. -/
def tapFour (j : ℕ) (hx : S4x4x8x24002.Slices ![0, 0, 0, j] S4x4x8x24000) (hw : S4x4x8x3.Slices ![0, 0, 0, j] S4x4x8x1)
    (x : FVec Ideal S4x4x8x24002 .f32) (w : FVec Ideal S16x8x3 .f32) : FVec Ideal S4x4x4x24000 .f32 :=
  transpose S4x4x4x24000 [1, 0, 3, 2] (Host.dotGeneral dot_S4x4x8x24000_S4x4x8_S4x4x24000x4_2_2_03_1_1_0 none
    (extractStridedSlice S4x4x8x24000 ![0, 0, 0, j] x hx)
    (shapeCast _ (extractStridedSlice S4x4x8x1 ![0, 0, 0, j] (shapeCast _ w shapeCasts_S16x8x3_S4x4x8x3 : FVec Ideal S4x4x8x3 .f32) hw)
      shapeCasts_S4x4x8x1_S4x4x8))
    transposes_S4x4x24000x4_S4x4x4x24000_1_0_3_2

/-- A grouped head's convolution: three taps and the bias. -/
def convFour (x : FVec Ideal S4x4x8x24002 .f32) (w : FVec Ideal S16x8x3 .f32) (b : FVec Ideal S16 .f32) :
    FVec Ideal S4x16x24000 .f32 :=
  addf (shapeCast _ (addf (addf (addf
      (broadcastInDim S4x4x4x24000 ![] bcast_S_S4x4x4x24000 (constant S_ .f32 0x00000000#32))
      (tapFour 0 slices_S4x4x8x24002_S4x4x8x24000_0_0_0_0 slices_S4x4x8x3_S4x4x8x1_0_0_0_0 x w))
      (tapFour 1 slices_S4x4x8x24002_S4x4x8x24000_0_0_0_1 slices_S4x4x8x3_S4x4x8x1_0_0_0_1 x w))
      (tapFour 2 slices_S4x4x8x24002_S4x4x8x24000_0_0_0_2 slices_S4x4x8x3_S4x4x8x1_0_0_0_2 x w))
    shapeCasts_S4x4x4x24000_S4x16x24000)
    (broadcastInDim S4x16x24000 ![0, 1, 2] bcast_S1x16x1_S4x16x24000_0_1_2 (broadcastInDim S1x16x1 ![1] bcast_S16_S1x16x1_1 b))

/-- A grouped head's convolution, at an index. -/
theorem convFour_read (x : FVec Ideal S4x4x8x24002 .f32) (w : FVec Ideal S16x8x3 .f32) (b : FVec Ideal S16 .f32)
    (n : Fin 4) (o : Fin 16) (t : Fin 24000) :
    (convFour x w b (ix3 n o t) : EReal)
      = (∑ i : Fin 8, x (ix4 n ⟨o.val / 4, by omega⟩ i ⟨t.val, by omega⟩) * w (ix3 o i 0))
        + (∑ i : Fin 8, x (ix4 n ⟨o.val / 4, by omega⟩ i ⟨1 + t.val, by omega⟩) * w (ix3 o i 1))
        + (∑ i : Fin 8, x (ix4 n ⟨o.val / 4, by omega⟩ i ⟨2 + t.val, by omega⟩) * w (ix3 o i 2)) + b (ix1 o) := by
  pointwise [convFour, tapFour]

/-- One tap of the last head's convolution. -/
def tapFive (j : ℕ) (hx : S4x1x32x24002.Slices ![0, 0, 0, j] S4x1x32x24000) (hw : S1x16x32x3.Slices ![0, 0, 0, j] S1x16x32x1)
    (x : FVec Ideal S4x1x32x24002 .f32) (w : FVec Ideal S16x32x3 .f32) : FVec Ideal S4x1x16x24000 .f32 :=
  transpose S4x1x16x24000 [1, 0, 3, 2] (Host.dotGeneral dot_S4x1x32x24000_S1x16x32_S1x4x24000x16_2_2_03_1_1_0 none
    (extractStridedSlice S4x1x32x24000 ![0, 0, 0, j] x hx)
    (shapeCast _ (extractStridedSlice S1x16x32x1 ![0, 0, 0, j] (shapeCast _ w shapeCasts_S16x32x3_S1x16x32x3 : FVec Ideal S1x16x32x3 .f32) hw)
      shapeCasts_S1x16x32x1_S1x16x32))
    transposes_S1x4x24000x16_S4x1x16x24000_1_0_3_2

/-- The last head's convolution: three taps and the bias. -/
def convFive (x : FVec Ideal S4x1x32x24002 .f32) (w : FVec Ideal S16x32x3 .f32) (b : FVec Ideal S16 .f32) :
    FVec Ideal S4x16x24000 .f32 :=
  addf (shapeCast _ (addf (addf (addf
      (broadcastInDim S4x1x16x24000 ![] bcast_S_S4x1x16x24000 (constant S_ .f32 0x00000000#32))
      (tapFive 0 slices_S4x1x32x24002_S4x1x32x24000_0_0_0_0 slices_S1x16x32x3_S1x16x32x1_0_0_0_0 x w))
      (tapFive 1 slices_S4x1x32x24002_S4x1x32x24000_0_0_0_1 slices_S1x16x32x3_S1x16x32x1_0_0_0_1 x w))
      (tapFive 2 slices_S4x1x32x24002_S4x1x32x24000_0_0_0_2 slices_S1x16x32x3_S1x16x32x1_0_0_0_2 x w))
    shapeCasts_S4x1x16x24000_S4x16x24000)
    (broadcastInDim S4x16x24000 ![0, 1, 2] bcast_S1x16x1_S4x16x24000_0_1_2 (broadcastInDim S1x16x1 ![1] bcast_S16_S1x16x1_1 b))

/-- The last head's convolution, at an index. -/
theorem convFive_read (x : FVec Ideal S4x1x32x24002 .f32) (w : FVec Ideal S16x32x3 .f32) (b : FVec Ideal S16 .f32)
    (n : Fin 4) (o : Fin 16) (t : Fin 24000) :
    (convFive x w b (ix3 n o t) : EReal)
      = (∑ i : Fin 32, x (ix4 n 0 i ⟨t.val, by omega⟩) * w (ix3 o i 0))
        + (∑ i : Fin 32, x (ix4 n 0 i ⟨1 + t.val, by omega⟩) * w (ix3 o i 1))
        + (∑ i : Fin 32, x (ix4 n 0 i ⟨2 + t.val, by omega⟩) * w (ix3 o i 2)) + b (ix1 o) := by
  pointwise [convFive, tapFive]

/-! ## The last product -/

/-- Sixteen channels in one group, padded by nothing. -/
def padNone (x : FVec Ideal S4x16x24000 .f32) : FVec Ideal S4x1x16x24000 .f32 :=
  shapeCast _ (pad S4x16x24000 ![0, 0, 0] ![0, 0, 0] ![0, 0, 0] x (sitofp .f32 (constantI S_ 32 0#32))
    pads_S4x16x24000_S4x16x24000_000_000_000 h_S_) shapeCasts_S4x16x24000_S4x1x16x24000

/-- Sixteen channels in one group, at an index. -/
theorem padNone_apply (x : FVec Ideal S4x16x24000 .f32) (n : Fin 4) (g : Fin 1) (i : Fin 16) (t : Fin 24000) :
    (padNone x (ix4 n g i t) : EReal) = x (ix3 n i t) := by
  pointwise [padNone]

/-- A head's last product with 12 output channels, and the bias. -/
def out12 (y : FVec Ideal S4x1x16x24000 .f32) (w : FVec Ideal S12x16x1 .f32) (b : FVec Ideal S12 .f32) :
    FVec Ideal S4x12x24000 .f32 :=
  addf (shapeCast _ (addf
      (broadcastInDim S4x1x12x24000 ![] bcast_S_S4x1x12x24000 (constant S_ .f32 0x00000000#32))
      (transpose S4x1x12x24000 [1, 0, 3, 2] (Host.dotGeneral dot_S4x1x16x24000_S1x12x16_S1x4x24000x12_2_2_03_1_1_0 none y
        (shapeCast _ (shapeCast _ w shapeCasts_S12x16x1_S1x12x16x1 : FVec Ideal S1x12x16x1 .f32) shapeCasts_S1x12x16x1_S1x12x16))
        transposes_S1x4x24000x12_S4x1x12x24000_1_0_3_2))
    shapeCasts_S4x1x12x24000_S4x12x24000)
    (broadcastInDim S4x12x24000 ![0, 1, 2] bcast_S1x12x1_S4x12x24000_0_1_2 (broadcastInDim S1x12x1 ![1] bcast_S12_S1x12x1_1 b))

/-- A head's last product with 12 output channels, at an index. -/
theorem out12_read (y : FVec Ideal S4x1x16x24000 .f32) (w : FVec Ideal S12x16x1 .f32) (b : FVec Ideal S12 .f32)
    (n : Fin 4) (q : Fin 12) (t : Fin 24000) :
    (out12 y w b (ix3 n q t) : EReal) = (∑ k : Fin 16, y (ix4 n 0 k t) * w (ix3 q k 0)) + b (ix1 q) := by
  pointwise [out12]

/-- A head's last product with 14 output channels, and the bias. -/
def out14 (y : FVec Ideal S4x1x16x24000 .f32) (w : FVec Ideal S14x16x1 .f32) (b : FVec Ideal S14 .f32) :
    FVec Ideal S4x14x24000 .f32 :=
  addf (shapeCast _ (addf
      (broadcastInDim S4x1x14x24000 ![] bcast_S_S4x1x14x24000 (constant S_ .f32 0x00000000#32))
      (transpose S4x1x14x24000 [1, 0, 3, 2] (Host.dotGeneral dot_S4x1x16x24000_S1x14x16_S1x4x24000x14_2_2_03_1_1_0 none y
        (shapeCast _ (shapeCast _ w shapeCasts_S14x16x1_S1x14x16x1 : FVec Ideal S1x14x16x1 .f32) shapeCasts_S1x14x16x1_S1x14x16))
        transposes_S1x4x24000x14_S4x1x14x24000_1_0_3_2))
    shapeCasts_S4x1x14x24000_S4x14x24000)
    (broadcastInDim S4x14x24000 ![0, 1, 2] bcast_S1x14x1_S4x14x24000_0_1_2 (broadcastInDim S1x14x1 ![1] bcast_S14_S1x14x1_1 b))

/-- A head's last product with 14 output channels, at an index. -/
theorem out14_read (y : FVec Ideal S4x1x16x24000 .f32) (w : FVec Ideal S14x16x1 .f32) (b : FVec Ideal S14 .f32)
    (n : Fin 4) (q : Fin 14) (t : Fin 24000) :
    (out14 y w b (ix3 n q t) : EReal) = (∑ k : Fin 16, y (ix4 n 0 k t) * w (ix3 q k 0)) + b (ix1 q) := by
  pointwise [out14]

/-- A head's last product with 8 output channels, and the bias. -/
def out8 (y : FVec Ideal S4x1x16x24000 .f32) (w : FVec Ideal S8x16x1 .f32) (b : FVec Ideal S8 .f32) :
    FVec Ideal S4x8x24000 .f32 :=
  addf (shapeCast _ (addf
      (broadcastInDim S4x1x8x24000 ![] bcast_S_S4x1x8x24000 (constant S_ .f32 0x00000000#32))
      (transpose S4x1x8x24000 [1, 0, 3, 2] (Host.dotGeneral dot_S4x1x16x24000_S1x8x16_S1x4x24000x8_2_2_03_1_1_0 none y
        (shapeCast _ (shapeCast _ w shapeCasts_S8x16x1_S1x8x16x1 : FVec Ideal S1x8x16x1 .f32) shapeCasts_S1x8x16x1_S1x8x16))
        transposes_S1x4x24000x8_S4x1x8x24000_1_0_3_2))
    shapeCasts_S4x1x8x24000_S4x8x24000)
    (broadcastInDim S4x8x24000 ![0, 1, 2] bcast_S1x8x1_S4x8x24000_0_1_2 (broadcastInDim S1x8x1 ![1] bcast_S8_S1x8x1_1 b))

/-- A head's last product with 8 output channels, at an index. -/
theorem out8_read (y : FVec Ideal S4x1x16x24000 .f32) (w : FVec Ideal S8x16x1 .f32) (b : FVec Ideal S8 .f32)
    (n : Fin 4) (q : Fin 8) (t : Fin 24000) :
    (out8 y w b (ix3 n q t) : EReal) = (∑ k : Fin 16, y (ix4 n 0 k t) * w (ix3 q k 0)) + b (ix1 q) := by
  pointwise [out8]

end Cert.ReferenceIdeal.Net
-- ==== Proof.ReferenceIdealValue.lean ====
module

public import proofs.«01_k».proof.Proof.Gen.ReferenceIdeal.Run
public import proofs.«01_k».proof.Proof.ReferenceIdealLayers

@[expose] public section

noncomputable section

/-! # The reference's result is the network's output -/

namespace Cert.ReferenceIdeal.Net

open Cert.ReferenceIdeal Cert.ReferenceIdeal.Gen Cert.ReferenceIdeal.Value Cert.Spec
open Idealize.ShloMosaic Idealize.ShloMosaic.TcCoe

variable (V0 : Valuation τ sig (Elt Ideal))

/-- The arguments a valuation holds. -/
def args : Args where
  x := V0 (Proc.tc.devRef main_arg0)
  w1 := V0 (Proc.tc.devRef main_arg1)
  b1 := V0 (Proc.tc.devRef main_arg2)
  w2 := V0 (Proc.tc.devRef main_arg3)
  b2 := V0 (Proc.tc.devRef main_arg4)
  w3 := V0 (Proc.tc.devRef main_arg5)
  b3 := V0 (Proc.tc.devRef main_arg6)
  u0 := V0 (Proc.tc.devRef main_arg7)
  c0 := V0 (Proc.tc.devRef main_arg8)
  v0 := V0 (Proc.tc.devRef main_arg9)
  d0 := V0 (Proc.tc.devRef main_arg10)
  u1 := V0 (Proc.tc.devRef main_arg11)
  c1 := V0 (Proc.tc.devRef main_arg12)
  v1 := V0 (Proc.tc.devRef main_arg13)
  d1 := V0 (Proc.tc.devRef main_arg14)
  u2 := V0 (Proc.tc.devRef main_arg15)
  c2 := V0 (Proc.tc.devRef main_arg16)
  v2 := V0 (Proc.tc.devRef main_arg17)
  d2 := V0 (Proc.tc.devRef main_arg18)
  u3 := V0 (Proc.tc.devRef main_arg19)
  c3 := V0 (Proc.tc.devRef main_arg20)
  v3 := V0 (Proc.tc.devRef main_arg21)
  d3 := V0 (Proc.tc.devRef main_arg22)
  u4 := V0 (Proc.tc.devRef main_arg23)
  c4 := V0 (Proc.tc.devRef main_arg24)
  v4 := V0 (Proc.tc.devRef main_arg25)
  d4 := V0 (Proc.tc.devRef main_arg26)

/-! ## The three layers -/

/-- The padded input is the network's input at moved times. -/
theorem v1_apply (n : Fin 4) (g : Fin 1) (i : Fin 64) (τ : Fin 24002) :
    ((res_main_v1 V0 : FVec Ideal S4x1x64x24002 .f32) (ix4 n g i τ) : EReal)
      = (args V0).net.s0 n.val (g.val * 64 + i.val) (τ.val + 127) :=
  padIn_apply (fun n c u => at3 (args V0).x n c (u - 128)) (args V0).x
    (fun n o t => at3_of (args V0).x n.isLt o.isLt t.isLt rfl rfl (by omega)) n g i τ

/-- The first layer before the rectifier. -/
theorem v25_apply (n : Fin 4) (o : Fin 32) (t : Fin 24000) :
    ((res_main_v25 V0 : FVec Ideal S4x32x24000 .f32) (ix3 n o t) : EReal)
      = conv 64 (args V0).net.w1 (args V0).net.b1 (args V0).net.s0 n.val o.val (t.val + 128) :=
  (convOne_read (res_main_v1 V0) (args V0).w1 (args V0).b1 n o t).trans
    (conv_dense (args V0).net.s0 (res_main_v1 V0) (args V0).w1 (args V0).b1 (v1_apply V0) n o t)

/-- The first layer, padded. -/
theorem v32_apply (n : Fin 4) (g : Fin 4) (i : Fin 8) (τ : Fin 24002) :
    ((res_main_v32 V0 : FVec Ideal S4x4x8x24002 .f32) (ix4 n g i τ) : EReal)
      = (args V0).net.s1 n.val (g.val * 8 + i.val) (τ.val + 127) :=
  padGroups_apply _ (act bcast_S_S4x32x24000 (res_main_v25 V0)) (act_apply bcast_S_S4x32x24000 _ _ (v25_apply V0)) n g i τ

/-- The second layer before the rectifier. -/
theorem v56_apply (n : Fin 4) (o : Fin 32) (t : Fin 24000) :
    ((res_main_v56 V0 : FVec Ideal S4x32x24000 .f32) (ix3 n o t) : EReal)
      = conv 32 (args V0).net.w2 (args V0).net.b2 (args V0).net.s1 n.val o.val (t.val + 128) :=
  (convTwo_read (res_main_v32 V0) (args V0).w2 (args V0).b2 n o t).trans
    (conv_grouped 8 (args V0).net.s1 (res_main_v32 V0) (args V0).w2 (args V0).b2 (v32_apply V0) n o t
      ⟨o.val / 8, by omega⟩ rfl)

/-- The second layer, padded. -/
theorem v63_apply (n : Fin 4) (g : Fin 1) (i : Fin 32) (τ : Fin 24002) :
    ((res_main_v63 V0 : FVec Ideal S4x1x32x24002 .f32) (ix4 n g i τ) : EReal)
      = (args V0).net.s2 n.val (g.val * 32 + i.val) (τ.val + 127) :=
  padOne_apply _ (act bcast_S_S4x32x24000 (res_main_v56 V0)) (act_apply bcast_S_S4x32x24000 _ _ (v56_apply V0)) n g i τ

/-- The third layer before the rectifier. -/
theorem v87_apply (n : Fin 4) (o : Fin 32) (t : Fin 24000) :
    ((res_main_v87 V0 : FVec Ideal S4x32x24000 .f32) (ix3 n o t) : EReal)
      = conv 32 (args V0).net.w3 (args V0).net.b3 (args V0).net.s2 n.val o.val (t.val + 128) :=
  (convThree_read (res_main_v63 V0) (args V0).w3 (args V0).b3 n o t).trans
    (conv_dense (args V0).net.s2 (res_main_v63 V0) (args V0).w3 (args V0).b3 (v63_apply V0) n o t)

/-- The third layer, padded, in four groups. -/
theorem groups_apply (n : Fin 4) (g : Fin 4) (i : Fin 8) (τ : Fin 24002) :
    (padGroups (act bcast_S_S4x32x24000 (res_main_v87 V0)) (ix4 n g i τ) : EReal)
      = (args V0).net.s3 n.val (g.val * 8 + i.val) (τ.val + 127) :=
  padGroups_apply _ (act bcast_S_S4x32x24000 (res_main_v87 V0)) (act_apply bcast_S_S4x32x24000 _ _ (v87_apply V0)) n g i τ

/-- The third layer, padded, in one group. -/
theorem one_apply (n : Fin 4) (g : Fin 1) (i : Fin 32) (τ : Fin 24002) :
    (padOne (act bcast_S_S4x32x24000 (res_main_v87 V0)) (ix4 n g i τ) : EReal)
      = (args V0).net.s3 n.val (g.val * 32 + i.val) (τ.val + 127) :=
  padOne_apply _ (act bcast_S_S4x32x24000 (res_main_v87 V0)) (act_apply bcast_S_S4x32x24000 _ _ (v87_apply V0)) n g i τ

/-! ## The heads -/

/-- A grouped head's first convolution. -/
def groupHead (u : FVec Ideal S16x8x3 .f32) (c : FVec Ideal S16 .f32) : FVec Ideal S4x16x24000 .f32 :=
  convFour (padGroups (act bcast_S_S4x32x24000 (res_main_v87 V0))) u c

/-- A grouped head's hidden channels before the rectifier. -/
theorem groupHead_apply (u : FVec Ideal S16x8x3 .f32) (c : FVec Ideal S16 .f32) (n : Fin 4) (o : Fin 16) (t : Fin 24000) :
    (groupHead V0 u c (ix3 n o t) : EReal)
      = conv 32 (grouped 4 (at3 u)) (at1 c) (args V0).net.s3 n.val o.val (t.val + 128) :=
  (convFour_read _ u c n o t).trans (conv_grouped 4 (args V0).net.s3 _ u c (groups_apply V0) n o t
    ⟨o.val / 4, by omega⟩ rfl)

/-- The last head's first convolution. -/
def lastHead (u : FVec Ideal S16x32x3 .f32) (c : FVec Ideal S16 .f32) : FVec Ideal S4x16x24000 .f32 :=
  convFive (padOne (act bcast_S_S4x32x24000 (res_main_v87 V0))) u c

/-- The last head's hidden channels before the rectifier. -/
theorem lastHead_apply (u : FVec Ideal S16x32x3 .f32) (c : FVec Ideal S16 .f32) (n : Fin 4) (o : Fin 16) (t : Fin 24000) :
    (lastHead V0 u c (ix3 n o t) : EReal)
      = conv 32 (at3 u) (at1 c) (args V0).net.s3 n.val o.val (t.val + 128) :=
  (convFive_read _ u c n o t).trans (conv_dense (args V0).net.s3 _ u c (one_apply V0) n o t)

/-- A head's hidden channels after the rectifier. -/
theorem hidden_apply {h : Sig} {x : FVec Ideal S4x16x24000 .f32}
    (hx : ∀ (n : Fin 4) (o : Fin 16) (t : Fin 24000), (x (ix3 n o t) : EReal) = h n.val o.val (t.val + 128))
    (n : Fin 4) (k : Fin 16) (t : Fin 24000) :
    (padNone (act bcast_S_S4x16x24000 x) (ix4 n 0 k t) : EReal) = rect h n.val k.val (t.val + 128) :=
  (padNone_apply _ n 0 k t).trans (act_apply bcast_S_S4x16x24000 h x hx n k t)

/-- An output channel of head `s`: the sum over all the heads' hidden channels is the one over the head's own. -/
theorem out_head (N : Net) (s : ℕ) (hs : s < 5) {a : ℕ} (v : FVec Ideal ⟨3, ![a, 16, 1]⟩ .f32) (W : ℕ → ℕ → ℕ → EReal)
    (B : ℕ → EReal) (d : EReal) (q q' : ℕ) (hwo : N.wo q = own s v q') (hbo : N.bo q = d)
    (hwh : ∀ i, i < 16 → N.wh (s * 16 + i) = W i) (hbh : ∀ i, i < 16 → N.bh (s * 16 + i) = B i) (n u : ℕ) :
    (∑ k : Fin 16, at3 v q' k.val 0 * rect (conv 32 W B N.s3) n k.val u) + d = N.out n q u := by
  unfold Net.out
  rw [hwo, hbo]
  refine congrArg (· + d) ?_
  refine Eq.trans ?_ (sum_group 5 16 80 s rfl hs (fun i => at3 v q' i 0) (fun k => N.sh n k u)).symm
  refine Finset.sum_congr rfl fun i _ => congrArg (at3 v q' i.val 0 * ·) ?_
  unfold Net.sh rect conv
  rw [hwh i.val i.isLt, hbh i.val i.isLt]

/-- A family over the heads' hidden channels, at each head's. -/
theorem byHead_at {α : Sort*} (f0 f1 f2 f3 f4 : ℕ → α) (i : ℕ) (hi : i < 16) :
    byHead f0 f1 f2 f3 f4 (0 * 16 + i) = f0 i ∧ byHead f0 f1 f2 f3 f4 (1 * 16 + i) = f1 i
      ∧ byHead f0 f1 f2 f3 f4 (2 * 16 + i) = f2 i ∧ byHead f0 f1 f2 f3 f4 (3 * 16 + i) = f3 i
      ∧ byHead f0 f1 f2 f3 f4 (4 * 16 + i) = f4 i := by
  refine ⟨?_, ?_, ?_, ?_, ?_⟩ <;>
    (unfold byHead; split_ifs <;> first | omega | (congr 1; omega))

/-- A family over the output channels, at each head's. -/
theorem byOut_at {α : Sort*} (f0 f1 f2 f3 f4 : ℕ → α) (p q : ℕ) :
    (p < 12 → p = q → byOut f0 f1 f2 f3 f4 q = f0 p) ∧ (p < 14 → 12 + p = q → byOut f0 f1 f2 f3 f4 q = f1 p)
      ∧ (p < 12 → 26 + p = q → byOut f0 f1 f2 f3 f4 q = f2 p) ∧ (p < 8 → 38 + p = q → byOut f0 f1 f2 f3 f4 q = f3 p)
      ∧ (p < 14 → 46 + p = q → byOut f0 f1 f2 f3 f4 q = f4 p) := by
  refine ⟨?_, ?_, ?_, ?_, ?_⟩ <;>
    (intro hp hq; unfold byOut; split_ifs <;> first | omega | (congr 1; omega))

/-- The five heads' results one after the other. -/
theorem cat_apply (Y0 : FVec Ideal S4x12x24000 .f32) (Y1 : FVec Ideal S4x14x24000 .f32) (Y2 : FVec Ideal S4x12x24000 .f32)
    (Y3 : FVec Ideal S4x8x24000 .f32) (Y4 : FVec Ideal S4x14x24000 .f32) (n : Fin 4) (q : Fin 60) (t : Fin 24000) (r : EReal)
    (h0 : ∀ p : Fin 12, p.val = q.val → (Y0 (ix3 n p t) : EReal) = r)
    (h1 : ∀ p : Fin 14, 12 + p.val = q.val → (Y1 (ix3 n p t) : EReal) = r)
    (h2 : ∀ p : Fin 12, 26 + p.val = q.val → (Y2 (ix3 n p t) : EReal) = r)
    (h3 : ∀ p : Fin 8, 38 + p.val = q.val → (Y3 (ix3 n p t) : EReal) = r)
    (h4 : ∀ p : Fin 14, 46 + p.val = q.val → (Y4 (ix3 n p t) : EReal) = r) :
    ((concatenate S4x60x24000 1 [⟨S4x12x24000, Y0⟩, ⟨S4x14x24000, Y1⟩, ⟨S4x12x24000, Y2⟩, ⟨S4x8x24000, Y3⟩, ⟨S4x14x24000, Y4⟩]
      concatenates_S4x12x24000_S4x14x24000_S4x12x24000_S4x8x24000_S4x14x24000_S4x60x24000_d1 : FVec Ideal S4x60x24000 .f32)
      (ix3 n q t) : EReal) = r := by
  pointwise
  by_cases a0 : q.val < 12
  · rw [dif_pos a0]; exact h0 ⟨q.val, a0⟩ rfl
  rw [dif_neg a0]
  by_cases a1 : q.val - 12 < 14
  · rw [dif_pos a1]; exact h1 ⟨q.val - 12, a1⟩ (show 12 + (q.val - 12) = q.val by omega)
  rw [dif_neg a1]
  by_cases a2 : q.val - 12 - 14 < 12
  · rw [dif_pos a2]; exact h2 ⟨q.val - 12 - 14, a2⟩ (show 26 + (q.val - 12 - 14) = q.val by omega)
  rw [dif_neg a2]
  by_cases a3 : q.val - 12 - 14 - 12 < 8
  · rw [dif_pos a3]; exact h3 ⟨q.val - 12 - 14 - 12, a3⟩ (show 38 + (q.val - 12 - 14 - 12) = q.val by omega)
  rw [dif_neg a3]
  exact h4 ⟨q.val - 12 - 14 - 12 - 8, by omega⟩ (show 46 + (q.val - 12 - 14 - 12 - 8) = q.val by omega)

/-- The reference's result is the network's output. -/
theorem v308_apply (n : Fin 4) (q : Fin 60) (t : Fin 24000) :
    ((res_main_v308 V0 : FVec Ideal S4x60x24000 .f32) (ix3 n q t) : EReal)
      = (args V0).net.out n.val q.val (t.val + 128) := by
  refine cat_apply (out12 (padNone (act bcast_S_S4x16x24000 (groupHead V0 (args V0).u0 (args V0).c0))) (args V0).v0 (args V0).d0)
    (out14 (padNone (act bcast_S_S4x16x24000 (groupHead V0 (args V0).u1 (args V0).c1))) (args V0).v1 (args V0).d1)
    (out12 (padNone (act bcast_S_S4x16x24000 (groupHead V0 (args V0).u2 (args V0).c2))) (args V0).v2 (args V0).d2)
    (out8 (padNone (act bcast_S_S4x16x24000 (groupHead V0 (args V0).u3 (args V0).c3))) (args V0).v3 (args V0).d3)
    (out14 (padNone (act bcast_S_S4x16x24000 (lastHead V0 (args V0).u4 (args V0).c4))) (args V0).v4 (args V0).d4) n q t _
    (fun p h => ?_) (fun p h => ?_) (fun p h => ?_) (fun p h => ?_) (fun p h => ?_)
  · exact ((out12_read _ _ _ n p t).trans (sum_hidden _ _ _ _ (hidden_apply (groupHead_apply V0 _ _)) n p t)).trans
      (out_head (args V0).net 0 (by omega) (args V0).v0 _ _ _ q.val p.val
        ((byOut_at _ _ _ _ _ p.val q.val).1 p.isLt h) ((byOut_at _ _ _ _ _ p.val q.val).1 p.isLt h)
        (fun i hi => (byHead_at _ _ _ _ _ i hi).1) (fun i hi => (byHead_at _ _ _ _ _ i hi).1) _ _)
  · exact ((out14_read _ _ _ n p t).trans (sum_hidden _ _ _ _ (hidden_apply (groupHead_apply V0 _ _)) n p t)).trans
      (out_head (args V0).net 1 (by omega) (args V0).v1 _ _ _ q.val p.val
        ((byOut_at _ _ _ _ _ p.val q.val).2.1 p.isLt h) ((byOut_at _ _ _ _ _ p.val q.val).2.1 p.isLt h)
        (fun i hi => (byHead_at _ _ _ _ _ i hi).2.1) (fun i hi => (byHead_at _ _ _ _ _ i hi).2.1) _ _)
  · exact ((out12_read _ _ _ n p t).trans (sum_hidden _ _ _ _ (hidden_apply (groupHead_apply V0 _ _)) n p t)).trans
      (out_head (args V0).net 2 (by omega) (args V0).v2 _ _ _ q.val p.val
        ((byOut_at _ _ _ _ _ p.val q.val).2.2.1 p.isLt h) ((byOut_at _ _ _ _ _ p.val q.val).2.2.1 p.isLt h)
        (fun i hi => (byHead_at _ _ _ _ _ i hi).2.2.1) (fun i hi => (byHead_at _ _ _ _ _ i hi).2.2.1) _ _)
  · exact ((out8_read _ _ _ n p t).trans (sum_hidden _ _ _ _ (hidden_apply (groupHead_apply V0 _ _)) n p t)).trans
      (out_head (args V0).net 3 (by omega) (args V0).v3 _ _ _ q.val p.val
        ((byOut_at _ _ _ _ _ p.val q.val).2.2.2.1 p.isLt h) ((byOut_at _ _ _ _ _ p.val q.val).2.2.2.1 p.isLt h)
        (fun i hi => (byHead_at _ _ _ _ _ i hi).2.2.2.1) (fun i hi => (byHead_at _ _ _ _ _ i hi).2.2.2.1) _ _)
  · exact ((out14_read _ _ _ n p t).trans (sum_hidden _ _ _ _ (hidden_apply (lastHead_apply V0 _ _)) n p t)).trans
      (out_head (args V0).net 4 (by omega) (args V0).v4 _ _ _ q.val p.val
        ((byOut_at _ _ _ _ _ p.val q.val).2.2.2.2 p.isLt h) ((byOut_at _ _ _ _ _ p.val q.val).2.2.2.2 p.isLt h)
        (fun i hi => (byHead_at _ _ _ _ _ i hi).2.2.2.2) (fun i hi => (byHead_at _ _ _ _ _ i hi).2.2.2.2) _ _)

/-- The reference's result as an array. -/
theorem result_eq : (res_main_v308 V0 : FVec Ideal S4x60x24000 .f32)
    = fun j => (args V0).net.out (j 0).val (j 1).val ((j 2).val + 128) := by
  funext j
  rw [eq_ix3 j]
  exact v308_apply V0 (j 0) (j 1) (j 2)

end Cert.ReferenceIdeal.Net
-- ==== Proof.lean ====
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.KernelRun
public import proofs.«01_k».proof.Proof.KernelIdealRun
public import proofs.«01_k».proof.Proof.KernelIdealResult
public import proofs.«01_k».proof.Proof.ReferenceIdealValue
public import Idealize.ShloMosaic.Adequacy
public import Idealize.ShloMosaic.Init

@[expose] public section

noncomputable section

namespace Cert.Proof

open Idealize.ShloMosaic Idealize.SL.Sem

/-- The kernel runs, keeps its arguments and ends with every semaphore at zero. -/
theorem frame_kernel : Cert.quiescent_Kernel (hKernel := Cert.Kernel.Gen.facts) := fun m g _ =>
  (θ_run _ _ _).mono (fun r h => ⟨fun c => by
    repeat' apply And.intro
    all_goals exact Cert.Kernel.Net.post_param m h.1 c _ (by decide), h.2⟩) (Cert.Kernel.Net.run_main m g)

/-- So does its idealization. -/
theorem frame_kernelIdeal : Cert.quiescent_KernelIdeal (hKernelIdeal := Cert.KernelIdeal.Gen.facts) := fun m g _ =>
  (θ_run _ _ _).mono (fun r h => ⟨fun c => by
    repeat' apply And.intro
    all_goals exact Cert.KernelIdeal.Net.post_param m h.1 c _ (by decide), h.2⟩) (Cert.KernelIdeal.Net.run_main m g)

/-- So does the reference. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- The named constant stands for the float nearest to one fifth: at the bf16 format, the kernel's constant. -/
theorem preserves : Cert.preserves_Kernel_KernelIdeal :=
  IdealRules.named_const.statement Cert.KernelIdeal.κ "slope" .bf16 0x3E4D#16 ((13421773 / 67108864 : ℝ) : EReal) rfl

/-- From the same arguments the reference's result is the kernel's. -/
theorem result_eq (m : (ℓ : Loc Cert.KernelIdeal.nD Cert.KernelIdeal.τ Cert.KernelIdeal.sig) → Buf (Elt Ideal) ℓ)
    (c : Dev Cert.KernelIdeal.nD) (V0 : Valuation Cert.ReferenceIdeal.τ Cert.ReferenceIdeal.sig (Elt Ideal))
    (h : Cert.ReferenceIdeal.Net.args V0 = Cert.KernelIdeal.Net.args m c) :
    (Cert.ReferenceIdeal.Value.res_main_v308 V0 : FVec Ideal Cert.ReferenceIdeal.S4x60x24000 .f32)
      = Cert.KernelIdeal.Net.result m c := by
  rw [Cert.ReferenceIdeal.Net.result_eq, h]
  rfl

/-- At the ideal floats, from equal arguments, both programs end with the network's output. -/
theorem algebraic : Cert.algebraic_KernelIdeal_ReferenceIdeal (hKernelIdeal := Cert.KernelIdeal.Gen.facts)
    (hReferenceIdeal := Cert.ReferenceIdeal.Gen.facts) := fun m g m' g' _ hargs => by
  refine ⟨fun c => Cert.KernelIdeal.Net.result m c, ?_, ?_⟩
  · refine (θ_run _ _ _).mono (fun r h c => ⟨?_, ?_⟩) (Cert.KernelIdeal.Net.run_main m g)
    · exact ((h.1 c).1 13).trans (Cert.KernelIdeal.Net.arrAt_result m c)
    · repeat' apply And.intro
      all_goals exact Cert.KernelIdeal.Net.post_param m h.1 c _ (by decide)
  · refine (θ_run _ _ _).mono (fun r h c => ⟨(h c).1.trans ?_, (h c).2⟩) (Cert.ReferenceIdeal.Value.run m' g')
    obtain ⟨h0, h1, h2, h3, h4, h5, h6, h7, h8, h9, h10, h11, h12, h13, h14, h15, h16, h17, h18, h19, h20, h21, h22, h23,
      h24, h25, h26⟩ := hargs c
    refine result_eq m c (fun b => m' (c, b)) ?_
    unfold Cert.ReferenceIdeal.Net.args Cert.KernelIdeal.Net.args
    congr 1

/-- All five claims. -/
theorem claim : Cert.Claim := ⟨Cert.Kernel.Gen.facts, Cert.KernelIdeal.Gen.facts, Cert.ReferenceIdeal.Gen.facts,
  frame_kernel, frame_kernelIdeal, frame_reference, preserves, algebraic⟩

end Cert.Proof

end
